-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_nonzero [hPre_weights_nonzero : Cert.Pre_weights_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_weights_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_nonzero [hPre_weights_nonzero : Cert.Pre_weights_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_weights_nonzero [hKernelIdeal : Cert.KernelIdeal.Facts] [hPre_weights_nonzero : Cert.Pre_weights_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_weights_nonzero [hReferenceIdeal : Cert.ReferenceIdeal.Facts] [hPre_weights_nonzero : Cert.Pre_weights_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_weights_nonzero [hKernelIdeal : Cert.KernelIdeal.Facts] [hReferenceIdeal : Cert.ReferenceIdeal.Facts] [hPre_weights_nonzero : Cert.Pre_weights_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_weights_nonzero : Cert.Pre_weights_nonzero.Facts),
    quiescent_Kernel (hKernel := hKernel)
    ∧ quiescent_KernelIdeal (hKernelIdeal := hKernelIdeal)
    ∧ quiescent_KernelIdeal_pre_weights_nonzero (hKernelIdeal := hKernelIdeal) (hPre_weights_nonzero := hPre_weights_nonzero)
    ∧ quiescent_ReferenceIdeal (hReferenceIdeal := hReferenceIdeal)
    ∧ quiescent_ReferenceIdeal_pre_weights_nonzero (hReferenceIdeal := hReferenceIdeal) (hPre_weights_nonzero := hPre_weights_nonzero)
    ∧ preserves_Kernel_KernelIdeal
    ∧ algebraic_KernelIdeal_ReferenceIdeal_pre_weights_nonzero (hKernelIdeal := hKernelIdeal) (hReferenceIdeal := hReferenceIdeal) (hPre_weights_nonzero := hPre_weights_nonzero)
-- ==== Pre_weights_nonzero.lean ====
abbrev S50000x20 : Shape := ⟨2, ![50000, 20]⟩
abbrev S50000x3x3 : Shape := ⟨3, ![50000, 3, 3]⟩
abbrev S1x20x5x3 : Shape := ⟨4, ![1, 20, 5, 3]⟩
abbrev S1x20x5x12 : Shape := ⟨4, ![1, 20, 5, 12]⟩
abbrev S1x20x5x1 : Shape := ⟨4, ![1, 20, 5, 1]⟩
abbrev S50000x20x1x1 : Shape := ⟨4, ![50000, 20, 1, 1]⟩
abbrev S50000x20x5x1 : Shape := ⟨4, ![50000, 20, 5, 1]⟩
abbrev S_ : Shape := ⟨0, ![]⟩
abbrev S50000x5x1 : Shape := ⟨3, ![50000, 5, 1]⟩

class Facts : Prop where
  bcast_S50000x20_S50000x20x1x1_0_1 : S50000x20.BroadcastsInDim S50000x20x1x1 (![0, 1] : Fin 2 → Fin S50000x20x1x1.rank)
  bcast_S50000x20x1x1_S50000x20x5x1_0_1_2_3 : S50000x20x1x1.BroadcastsInDim S50000x20x5x1 (![0, 1, 2, 3] : Fin 4 → Fin S50000x20x5x1.rank)
  bcast_S1x20x5x1_S50000x20x5x1_0_1_2_3 : S1x20x5x1.BroadcastsInDim S50000x20x5x1 (![0, 1, 2, 3] : Fin 4 → Fin S50000x20x5x1.rank)
  reducesTo_S50000x20x5x1_S50000x5x1_d1 : S50000x20x5x1.ReducesTo [1] S50000x5x1
  h_S_ : 0 < S_.numel
  bcast_S_S50000x5x1 : S_.BroadcastsInDim S50000x5x1 (![] : Fin 0 → Fin S50000x5x1.rank)

variable [Facts]

def fn {F : FTy → Type} [FloatOps F] (main_arg0 : FVec F S50000x20 .f32) (main_arg1 : FVec F S50000x3x3 .f32) (main_arg2 : FVec F S50000x20 .f32) (main_arg3 : FVec F S50000x3x3 .f32) (main_arg4 : FVec F S1x20x5x3 .f32) (main_arg5 : FVec F S1x20x5x12 .f32) (main_arg6 : FVec F S1x20x5x1 .f32) (main_arg7 : FVec F S1x20x5x1 .f32) : IVec S50000x5x1 1 :=
  let main_v0 : FVec F S50000x20x1x1 .f32 := broadcastInDim S50000x20x1x1 ![0, 1] bcast_S50000x20_S50000x20x1x1_0_1 main_arg0
  let main_v1 : FVec F S50000x20x5x1 .f32 := broadcastInDim S50000x20x5x1 ![0, 1, 2, 3] bcast_S50000x20x1x1_S50000x20x5x1_0_1_2_3 main_v0
  let main_v2 : FVec F S50000x20x5x1 .f32 := broadcastInDim S50000x20x5x1 ![0, 1, 2, 3] bcast_S1x20x5x1_S50000x20x5x1_0_1_2_3 main_arg6
  let main_v3 : FVec F S50000x20x5x1 .f32 := mulf main_v1 main_v2
  let main_cst : FVec F S_ .f32 := constant S_ .f32 0x00000000#32
  let main_v4 : FVec F S50000x5x1 .f32 := (fun x v => Host.reduceAdd x v reducesTo_S50000x20x5x1_S50000x5x1_d1 h_S_) main_v3 main_cst
  let main_v5 : FVec F S50000x20x1x1 .f32 := broadcastInDim S50000x20x1x1 ![0, 1] bcast_S50000x20_S50000x20x1x1_0_1 main_arg2
  let main_v6 : FVec F S50000x20x5x1 .f32 := broadcastInDim S50000x20x5x1 ![0, 1, 2, 3] bcast_S50000x20x1x1_S50000x20x5x1_0_1_2_3 main_v5
  let main_v7 : FVec F S50000x20x5x1 .f32 := broadcastInDim S50000x20x5x1 ![0, 1, 2, 3] bcast_S1x20x5x1_S50000x20x5x1_0_1_2_3 main_arg6
  let main_v8 : FVec F S50000x20x5x1 .f32 := mulf main_v6 main_v7
  let main_cst_0 : FVec F S_ .f32 := constant S_ .f32 0x00000000#32
  let main_v9 : FVec F S50000x5x1 .f32 := (fun x v => Host.reduceAdd x v reducesTo_S50000x20x5x1_S50000x5x1_d1 h_S_) main_v8 main_cst_0
  let main_cst_1 : FVec F S_ .f32 := constant S_ .f32 0x00000000#32
  let main_v10 : FVec F S50000x5x1 .f32 := broadcastInDim S50000x5x1 ![] bcast_S_S50000x5x1 main_cst_1
  let main_v11 : IVec S50000x5x1 1 := cmpf .une main_v4 main_v10
  let main_cst_2 : FVec F S_ .f32 := constant S_ .f32 0x00000000#32
  let main_v12 : FVec F S50000x5x1 .f32 := broadcastInDim S50000x5x1 ![] bcast_S_S50000x5x1 main_cst_2
  let main_v13 : IVec S50000x5x1 1 := cmpf .une main_v9 main_v12
  let main_v14 : IVec S50000x5x1 1 := andi main_v11 main_v13
  main_v14
-- ==== Kernel.lean ====
abbrev S50000x20 : Shape := ⟨2, ![50000, 20]⟩
abbrev S50000x3x3 : Shape := ⟨3, ![50000, 3, 3]⟩
abbrev S1x20x5x3 : Shape := ⟨4, ![1, 20, 5, 3]⟩
abbrev S1x20x5x12 : Shape := ⟨4, ![1, 20, 5, 12]⟩
abbrev S1x20x5x1 : Shape := ⟨4, ![1, 20, 5, 1]⟩
abbrev S20x5x3 : Shape := ⟨3, ![20, 5, 3]⟩
abbrev S20x5x12 : Shape := ⟨3, ![20, 5, 12]⟩
abbrev S20x5x1 : Shape := ⟨3, ![20, 5, 1]⟩
abbrev S20x5x17 : Shape := ⟨3, ![20, 5, 17]⟩
abbrev S20x85 : Shape := ⟨2, ![20, 85]⟩
abbrev S85x20 : Shape := ⟨2, ![85, 20]⟩
abbrev S20x50000 : Shape := ⟨2, ![20, 50000]⟩
abbrev S20x100000 : Shape := ⟨2, ![20, 100000]⟩
abbrev S3x3x50000 : Shape := ⟨3, ![3, 3, 50000]⟩
abbrev S3x3x100000 : Shape := ⟨3, ![3, 3, 100000]⟩
abbrev S17x500000 : Shape := ⟨2, ![17, 500000]⟩
abbrev S500000x17 : Shape := ⟨2, ![500000, 17]⟩
abbrev S20x4096 : Shape := ⟨2, ![20, 4096]⟩
abbrev S3x3x4096 : Shape := ⟨3, ![3, 3, 4096]⟩
abbrev S17x20480 : Shape := ⟨2, ![17, 20480]⟩
abbrev S85x4096 : Shape := ⟨2, ![85, 4096]⟩
abbrev S1x3x4096 : Shape := ⟨3, ![1, 3, 4096]⟩
abbrev S3x4096 : Shape := ⟨2, ![3, 4096]⟩
abbrev S4096 : Shape := ⟨1, ![4096]⟩
abbrev S1x4096 : Shape := ⟨2, ![1, 4096]⟩
abbrev S13x4096 : Shape := ⟨2, ![13, 4096]⟩
abbrev S17x4096 : Shape := ⟨2, ![17, 4096]⟩
abbrev S17x640 : Shape := ⟨2, ![17, 640]⟩
abbrev S17x128 : Shape := ⟨2, ![17, 128]⟩
abbrev S17x128x1 : Shape := ⟨3, ![17, 128, 1]⟩

abbrev nBuf : Space → Nat
  | .hbm => 29
  | .vmem => 7
  | .smem => 0
  | _ => 0

abbrev bufTy : (tb : Table) → Fin (tcTables nBuf tb) → BufTy
  | .hbm, ⟨0, _⟩ => ⟨S50000x20, .f32⟩
  | .hbm, ⟨1, _⟩ => ⟨S50000x3x3, .f32⟩
  | .hbm, ⟨2, _⟩ => ⟨S50000x20, .f32⟩
  | .hbm, ⟨3, _⟩ => ⟨S50000x3x3, .f32⟩
  | .hbm, ⟨4, _⟩ => ⟨S1x20x5x3, .f32⟩
  | .hbm, ⟨5, _⟩ => ⟨S1x20x5x12, .f32⟩
  | .hbm, ⟨6, _⟩ => ⟨S1x20x5x1, .f32⟩
  | .hbm, ⟨7, _⟩ => ⟨S1x20x5x1, .f32⟩
  | .hbm, ⟨8, _⟩ => ⟨S1x20x5x3, .f32⟩
  | .hbm, ⟨9, _⟩ => ⟨S1x20x5x3, .f32⟩
  | .hbm, ⟨10, _⟩ => ⟨S20x5x3, .f32⟩
  | .hbm, ⟨11, _⟩ => ⟨S1x20x5x12, .f32⟩
  | .hbm, ⟨12, _⟩ => ⟨S1x20x5x12, .f32⟩
  | .hbm, ⟨13, _⟩ => ⟨S20x5x12, .f32⟩
  | .hbm, ⟨14, _⟩ => ⟨S20x5x1, .f32⟩
  | .hbm, ⟨15, _⟩ => ⟨S20x5x1, .f32⟩
  | .hbm, ⟨16, _⟩ => ⟨S20x5x1, .f32⟩
  | .hbm, ⟨17, _⟩ => ⟨S20x5x1, .f32⟩
  | .hbm, ⟨18, _⟩ => ⟨S20x5x17, .f32⟩
  | .hbm, ⟨19, _⟩ => ⟨S20x85, .f32⟩
  | .hbm, ⟨20, _⟩ => ⟨S85x20, .f32⟩
  | .hbm, ⟨21, _⟩ => ⟨S20x50000, .f32⟩
  | .hbm, ⟨22, _⟩ => ⟨S20x50000, .f32⟩
  | .hbm, ⟨23, _⟩ => ⟨S20x100000, .f32⟩
  | .hbm, ⟨24, _⟩ => ⟨S3x3x50000, .f32⟩
  | .hbm, ⟨25, _⟩ => ⟨S3x3x50000, .f32⟩
  | .hbm, ⟨26, _⟩ => ⟨S3x3x100000, .f32⟩
  | .hbm, ⟨27, _⟩ => ⟨S17x500000, .f32⟩
  | .hbm, ⟨28, _⟩ => ⟨S500000x17, .f32⟩
  | .local _ .vmem, ⟨0, _⟩ => ⟨S20x4096, .f32⟩
  | .local _ .vmem, ⟨1, _⟩ => ⟨S20x4096, .f32⟩
  | .local _ .vmem, ⟨2, _⟩ => ⟨S3x3x4096, .f32⟩
  | .local _ .vmem, ⟨3, _⟩ => ⟨S3x3x4096, .f32⟩
  | .local _ .vmem, ⟨4, _⟩ => ⟨S85x20, .f32⟩
  | .local _ .vmem, ⟨5, _⟩ => ⟨S17x20480, .f32⟩
  | .local _ .vmem, ⟨6, _⟩ => ⟨S17x20480, .f32⟩
  | _, _ => ⟨S50000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_v0 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S20x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S85x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S17x20480 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S50000x20 : Shape := ⟨2, ![50000, 20]⟩
abbrev S50000x3x3 : Shape := ⟨3, ![50000, 3, 3]⟩
abbrev S1x20x5x3 : Shape := ⟨4, ![1, 20, 5, 3]⟩
abbrev S1x20x5x12 : Shape := ⟨4, ![1, 20, 5, 12]⟩
abbrev S1x20x5x1 : Shape := ⟨4, ![1, 20, 5, 1]⟩
abbrev S50000x20x1x1 : Shape := ⟨4, ![50000, 20, 1, 1]⟩
abbrev S50000x20x5x1 : Shape := ⟨4, ![50000, 20, 5, 1]⟩
abbrev S_ : Shape := ⟨0, ![]⟩
abbrev S50000x5x1 : Shape := ⟨3, ![50000, 5, 1]⟩
abbrev S50000x20x5x3 : Shape := ⟨4, ![50000, 20, 5, 3]⟩
abbrev S50000x5x3 : Shape := ⟨3, ![50000, 5, 3]⟩
abbrev S50000x20x5x12 : Shape := ⟨4, ![50000, 20, 5, 12]⟩
abbrev S50000x5x12 : Shape := ⟨3, ![50000, 5, 12]⟩
abbrev S50000x1x3 : Shape := ⟨3, ![50000, 1, 3]⟩
abbrev S50000x3 : Shape := ⟨2, ![50000, 3]⟩
abbrev S1x50000x3 : Shape := ⟨3, ![1, 50000, 3]⟩
abbrev S1x50000 : Shape := ⟨2, ![1, 50000]⟩
abbrev S1x50000x1 : Shape := ⟨3, ![1, 50000, 1]⟩
abbrev S1x1x50000 : Shape := ⟨3, ![1, 1, 50000]⟩
abbrev S3x1x50000 : Shape := ⟨3, ![3, 1, 50000]⟩
abbrev S1x50000x3x1 : Shape := ⟨4, ![1, 50000, 3, 1]⟩
abbrev S1x50000x3x3 : Shape := ⟨4, ![1, 50000, 3, 3]⟩
abbrev S5x50000x3 : Shape := ⟨3, ![5, 50000, 3]⟩
abbrev S250000x3 : Shape := ⟨2, ![250000, 3]⟩
abbrev S250000x12 : Shape := ⟨2, ![250000, 12]⟩
abbrev S250000 : Shape := ⟨1, ![250000]⟩
abbrev S250000x1 : Shape := ⟨2, ![250000, 1]⟩
abbrev S250000x17 : Shape := ⟨2, ![250000, 17]⟩
abbrev S500000x17 : Shape := ⟨2, ![500000, 17]⟩

abbrev nBuf : Space → Nat
  | .hbm => 241
  | .vmem => 0
  | .smem => 0
  | _ => 0

abbrev hbmTy0_0 (i : Nat) : BufTy := match i % 128 with
  | 0 => ⟨S50000x20, .f32⟩
  | 1 => ⟨S50000x3x3, .f32⟩
  | 2 => ⟨S50000x20, .f32⟩
  | 3 => ⟨S50000x3x3, .f32⟩
  | 4 => ⟨S1x20x5x3, .f32⟩
  | 5 => ⟨S1x20x5x12, .f32⟩
  | 6 => ⟨S1x20x5x1, .f32⟩
  | 7 => ⟨S1x20x5x1, .f32⟩
  | 8 => ⟨S50000x20x1x1, .f32⟩
  | 9 => ⟨S50000x20x5x1, .f32⟩
  | 10 => ⟨S50000x20x5x1, .f32⟩
  | 11 => ⟨S50000x20x5x1, .f32⟩
  | 12 => ⟨S_, .f32⟩
  | 13 => ⟨S50000x5x1, .f32⟩
  | 14 => ⟨S50000x20x5x3, .f32⟩
  | 15 => ⟨S50000x20x5x3, .f32⟩
  | 16 => ⟨S50000x20x5x3, .f32⟩
  | 17 => ⟨S50000x20x5x3, .f32⟩
  | 18 => ⟨S50000x20x5x3, .f32⟩
  | 19 => ⟨S_, .f32⟩
  | 20 => ⟨S50000x5x3, .f32⟩
  | 21 => ⟨S50000x5x3, .f32⟩
  | 22 => ⟨S50000x5x3, .f32⟩
  | 23 => ⟨S50000x20x5x12, .f32⟩
  | 24 => ⟨S50000x20x5x12, .f32⟩
  | 25 => ⟨S50000x20x5x12, .f32⟩
  | 26 => ⟨S50000x20x5x12, .f32⟩
  | 27 => ⟨S50000x20x5x12, .f32⟩
  | 28 => ⟨S_, .f32⟩
  | 29 => ⟨S50000x5x12, .f32⟩
  | 30 => ⟨S50000x5x12, .f32⟩
  | 31 => ⟨S50000x5x12, .f32⟩
  | 32 => ⟨S50000x20x5x1, .f32⟩
  | 33 => ⟨S50000x20x5x1, .f32⟩
  | 34 => ⟨S50000x20x5x1, .f32⟩
  | 35 => ⟨S50000x20x5x1, .f32⟩
  | 36 => ⟨S50000x20x5x1, .f32⟩
  | 37 => ⟨S_, .f32⟩
  | 38 => ⟨S50000x5x1, .f32⟩
  | 39 => ⟨S50000x5x1, .f32⟩
  | 40 => ⟨S50000x1x3, .f32⟩
  | 41 => ⟨S50000x3, .f32⟩
  | 42 => ⟨S1x50000x3, .f32⟩
  | 43 => ⟨S50000x1x3, .f32⟩
  | 44 => ⟨S50000x3, .f32⟩
  | 45 => ⟨S1x50000x3, .f32⟩
  | 46 => ⟨S50000x1x3, .f32⟩
  | 47 => ⟨S50000x3, .f32⟩
  | 48 => ⟨S1x50000x3, .f32⟩
  | 49 => ⟨S1x50000x3, .f32⟩
  | 50 => ⟨S1x50000x3, .f32⟩
  | 51 => ⟨S1x50000x3, .f32⟩
  | 52 => ⟨S_, .f32⟩
  | 53 => ⟨S1x50000, .f32⟩
  | 54 => ⟨S1x50000x1, .f32⟩
  | 55 => ⟨S1x50000x1, .f32⟩
  | 56 => ⟨S_, .f32⟩
  | 57 => ⟨S1x50000x1, .f32⟩
  | 58 => ⟨S1x50000x1, .f32⟩
  | 59 => ⟨S1x50000x3, .f32⟩
  | 60 => ⟨S1x50000x3, .f32⟩
  | 61 => ⟨S1x50000x3, .f32⟩
  | 62 => ⟨S_, .f32⟩
  | 63 => ⟨S1x50000, .f32⟩
  | 64 => ⟨S1x50000x1, .f32⟩
  | 65 => ⟨S1x50000x3, .f32⟩
  | 66 => ⟨S1x50000x3, .f32⟩
  | 67 => ⟨S1x50000x3, .f32⟩
  | 68 => ⟨S1x50000x3, .f32⟩
  | 69 => ⟨S_, .f32⟩
  | 70 => ⟨S1x50000, .f32⟩
  | 71 => ⟨S1x50000x1, .f32⟩
  | 72 => ⟨S1x50000x1, .f32⟩
  | 73 => ⟨S_, .f32⟩
  | 74 => ⟨S1x50000x1, .f32⟩
  | 75 => ⟨S1x50000x1, .f32⟩
  | 76 => ⟨S1x50000x3, .f32⟩
  | 77 => ⟨S1x50000x3, .f32⟩
  | 78 => ⟨S1x50000x1, .f32⟩
  | 79 => ⟨S1x50000, .f32⟩
  | 80 => ⟨S1x50000x1, .f32⟩
  | 81 => ⟨S1x50000, .f32⟩
  | 82 => ⟨S1x50000x1, .f32⟩
  | 83 => ⟨S1x50000, .f32⟩
  | 84 => ⟨S1x50000x1, .f32⟩
  | 85 => ⟨S1x50000, .f32⟩
  | 86 => ⟨S1x50000x1, .f32⟩
  | 87 => ⟨S1x50000, .f32⟩
  | 88 => ⟨S1x50000x1, .f32⟩
  | 89 => ⟨S1x50000, .f32⟩
  | 90 => ⟨S1x50000, .f32⟩
  | 91 => ⟨S1x50000, .f32⟩
  | 92 => ⟨S1x50000, .f32⟩
  | 93 => ⟨S1x50000, .f32⟩
  | 94 => ⟨S1x50000, .f32⟩
  | 95 => ⟨S1x50000, .f32⟩
  | 96 => ⟨S1x50000, .f32⟩
  | 97 => ⟨S1x50000, .f32⟩
  | 98 => ⟨S1x50000, .f32⟩
  | 99 => ⟨S1x1x50000, .f32⟩
  | 100 => ⟨S1x1x50000, .f32⟩
  | 101 => ⟨S1x1x50000, .f32⟩
  | 102 => ⟨S3x1x50000, .f32⟩
  | 103 => ⟨S1x50000x3, .f32⟩
  | 104 => ⟨S1x50000x3x1, .f32⟩
  | 105 => ⟨S1x50000x3x1, .f32⟩
  | 106 => ⟨S1x50000x3x1, .f32⟩
  | 107 => ⟨S1x50000x3x3, .f32⟩
  | 108 => ⟨S50000x3x3, .f32⟩
  | 109 => ⟨S5x50000x3, .f32⟩
  | 110 => ⟨S50000x5x3, .f32⟩
  | 111 => ⟨S5x50000x3, .f32⟩
  | 112 => ⟨S50000x3, .f32⟩
  | 113 => ⟨S1x50000x3, .f32⟩
  | 114 => ⟨S5x50000x3, .f32⟩
  | 115 => ⟨S5x50000x3, .f32⟩
  | 116 => ⟨S50000x5x3, .f32⟩
  | 117 => ⟨S250000x3, .f32⟩
  | 118 => ⟨S250000x12, .f32⟩
  | 119 => ⟨S250000, .f32⟩
  | 120 => ⟨S250000, .f32⟩
  | 121 => ⟨S250000x1, .f32⟩
  | 122 => ⟨S250000x1, .f32⟩
  | 123 => ⟨S250000x17, .f32⟩
  | 124 => ⟨S50000x20x1x1, .f32⟩
  | 125 => ⟨S50000x20x5x1, .f32⟩
  | 126 => ⟨S50000x20x5x1, .f32⟩
  | 127 => ⟨S50000x20x5x1, .f32⟩
  | _ => ⟨S50000x20, .f32⟩

abbrev hbmTy0_1 (i : Nat) : BufTy := match i % 128 with
  | 0 => ⟨S_, .f32⟩
  | 1 => ⟨S50000x5x1, .f32⟩
  | 2 => ⟨S50000x20x5x3, .f32⟩
  | 3 => ⟨S50000x20x5x3, .f32⟩
  | 4 => ⟨S50000x20x5x3, .f32⟩
  | 5 => ⟨S50000x20x5x3, .f32⟩
  | 6 => ⟨S50000x20x5x3, .f32⟩
  | 7 => ⟨S_, .f32⟩
  | 8 => ⟨S50000x5x3, .f32⟩
  | 9 => ⟨S50000x5x3, .f32⟩
  | 10 => ⟨S50000x5x3, .f32⟩
  | 11 => ⟨S50000x20x5x12, .f32⟩
  | 12 => ⟨S50000x20x5x12, .f32⟩
  | 13 => ⟨S50000x20x5x12, .f32⟩
  | 14 => ⟨S50000x20x5x12, .f32⟩
  | 15 => ⟨S50000x20x5x12, .f32⟩
  | 16 => ⟨S_, .f32⟩
  | 17 => ⟨S50000x5x12, .f32⟩
  | 18 => ⟨S50000x5x12, .f32⟩
  | 19 => ⟨S50000x5x12, .f32⟩
  | 20 => ⟨S50000x20x5x1, .f32⟩
  | 21 => ⟨S50000x20x5x1, .f32⟩
  | 22 => ⟨S50000x20x5x1, .f32⟩
  | 23 => ⟨S50000x20x5x1, .f32⟩
  | 24 => ⟨S50000x20x5x1, .f32⟩
  | 25 => ⟨S_, .f32⟩
  | 26 => ⟨S50000x5x1, .f32⟩
  | 27 => ⟨S50000x5x1, .f32⟩
  | 28 => ⟨S50000x1x3, .f32⟩
  | 29 => ⟨S50000x3, .f32⟩
  | 30 => ⟨S1x50000x3, .f32⟩
  | 31 => ⟨S50000x1x3, .f32⟩
  | 32 => ⟨S50000x3, .f32⟩
  | 33 => ⟨S1x50000x3, .f32⟩
  | 34 => ⟨S50000x1x3, .f32⟩
  | 35 => ⟨S50000x3, .f32⟩
  | 36 => ⟨S1x50000x3, .f32⟩
  | 37 => ⟨S1x50000x3, .f32⟩
  | 38 => ⟨S1x50000x3, .f32⟩
  | 39 => ⟨S1x50000x3, .f32⟩
  | 40 => ⟨S_, .f32⟩
  | 41 => ⟨S1x50000, .f32⟩
  | 42 => ⟨S1x50000x1, .f32⟩
  | 43 => ⟨S1x50000x1, .f32⟩
  | 44 => ⟨S_, .f32⟩
  | 45 => ⟨S1x50000x1, .f32⟩
  | 46 => ⟨S1x50000x1, .f32⟩
  | 47 => ⟨S1x50000x3, .f32⟩
  | 48 => ⟨S1x50000x3, .f32⟩
  | 49 => ⟨S1x50000x3, .f32⟩
  | 50 => ⟨S_, .f32⟩
  | 51 => ⟨S1x50000, .f32⟩
  | 52 => ⟨S1x50000x1, .f32⟩
  | 53 => ⟨S1x50000x3, .f32⟩
  | 54 => ⟨S1x50000x3, .f32⟩
  | 55 => ⟨S1x50000x3, .f32⟩
  | 56 => ⟨S1x50000x3, .f32⟩
  | 57 => ⟨S_, .f32⟩
  | 58 => ⟨S1x50000, .f32⟩
  | 59 => ⟨S1x50000x1, .f32⟩
  | 60 => ⟨S1x50000x1, .f32⟩
  | 61 => ⟨S_, .f32⟩
  | 62 => ⟨S1x50000x1, .f32⟩
  | 63 => ⟨S1x50000x1, .f32⟩
  | 64 => ⟨S1x50000x3, .f32⟩
  | 65 => ⟨S1x50000x3, .f32⟩
  | 66 => ⟨S1x50000x1, .f32⟩
  | 67 => ⟨S1x50000, .f32⟩
  | 68 => ⟨S1x50000x1, .f32⟩
  | 69 => ⟨S1x50000, .f32⟩
  | 70 => ⟨S1x50000x1, .f32⟩
  | 71 => ⟨S1x50000, .f32⟩
  | 72 => ⟨S1x50000x1, .f32⟩
  | 73 => ⟨S1x50000, .f32⟩
  | 74 => ⟨S1x50000x1, .f32⟩
  | 75 => ⟨S1x50000, .f32⟩
  | 76 => ⟨S1x50000x1, .f32⟩
  | 77 => ⟨S1x50000, .f32⟩
  | 78 => ⟨S1x50000, .f32⟩
  | 79 => ⟨S1x50000, .f32⟩
  | 80 => ⟨S1x50000, .f32⟩
  | 81 => ⟨S1x50000, .f32⟩
  | 82 => ⟨S1x50000, .f32⟩
  | 83 => ⟨S1x50000, .f32⟩
  | 84 => ⟨S1x50000, .f32⟩
  | 85 => ⟨S1x50000, .f32⟩
  | 86 => ⟨S1x50000, .f32⟩
  | 87 => ⟨S1x1x50000, .f32⟩
  | 88 => ⟨S1x1x50000, .f32⟩
  | 89 => ⟨S1x1x50000, .f32⟩
  | 90 => ⟨S3x1x50000, .f32⟩
  | 91 => ⟨S1x50000x3, .f32⟩
  | 92 => ⟨S1x50000x3x1, .f32⟩
  | 93 => ⟨S1x50000x3x1, .f32⟩
  | 94 => ⟨S1x50000x3x1, .f32⟩
  | 95 => ⟨S1x50000x3x3, .f32⟩
  | 96 => ⟨S50000x3x3, .f32⟩
  | 97 => ⟨S5x50000x3, .f32⟩
  | 98 => ⟨S50000x5x3, .f32⟩
  | 99 => ⟨S5x50000x3, .f32⟩
  | 100 => ⟨S50000x3, .f32⟩
  | 101 => ⟨S1x50000x3, .f32⟩
  | 102 => ⟨S5x50000x3, .f32⟩
  | 103 => ⟨S5x50000x3, .f32⟩
  | 104 => ⟨S50000x5x3, .f32⟩
  | 105 => ⟨S250000x3, .f32⟩
  | 106 => ⟨S250000x12, .f32⟩
  | 107 => ⟨S250000, .f32⟩
  | 108 => ⟨S250000, .f32⟩
  | 109 => ⟨S250000x1, .f32⟩
  | 110 => ⟨S250000x1, .f32⟩
  | 111 => ⟨S250000x17, .f32⟩
  | 112 => ⟨S500000x17, .f32⟩
  | _ => ⟨S50000x20, .f32⟩

abbrev hbmTy (i : Nat) : BufTy := match i / 128 with
  | 0 => hbmTy0_0 i
  | 1 => hbmTy0_1 i
  | _ => ⟨S50000x20, .f32⟩

abbrev bufTy : (tb : Table) → Fin (tcTables nBuf tb) → BufTy
  | .hbm, ⟨i, _⟩ => hbmTy i
  | _, _ => ⟨S50000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_cst : Ref sig .tc := ⟨.hbm, 52, rfl⟩
abbrev main_call0_v1 : Ref sig .tc := ⟨.hbm, 53, rfl⟩
abbrev main_call0_v2 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_v0 : Ref sig .tc := ⟨.hbm, 68, rfl⟩
abbrev main_call1_cst : Ref sig .tc := ⟨.hbm, 69, rfl⟩
abbrev main_call1_v1 : Ref sig .tc := ⟨.hbm, 70, rfl⟩
abbrev main_call1_v2 : Ref sig .tc := ⟨.hbm, 71, rfl⟩
abbrev main_v50 : Ref sig .tc := ⟨.hbm, 72, rfl⟩
abbrev main_cst_5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_v15 : Ref sig .tc := ⟨.hbm, 93, rfl⟩
abbrev main_call2_v16 : Ref sig .tc := ⟨.hbm, 94, rfl⟩
abbrev main_call2_v17 : Ref sig .tc := ⟨.hbm, 95, rfl⟩
abbrev main_call2_v18 : Ref sig .tc := ⟨.hbm, 96, rfl⟩
abbrev main_call2_v19 : Ref sig .tc := ⟨.hbm, 97, rfl⟩
abbrev main_call2_v20 : Ref sig .tc := ⟨.hbm, 98, rfl⟩
abbrev main_call2_v21 : Ref sig .tc := ⟨.hbm, 99, rfl⟩
abbrev main_call2_v22 : Ref sig .tc := ⟨.hbm, 100, rfl⟩
abbrev main_call2_v23 : Ref sig .tc := ⟨.hbm, 101, rfl⟩
abbrev main_call2_v24 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_6 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_7 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_8 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_9 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_call3_v0 : Ref sig .tc := ⟨.hbm, 167, rfl⟩
abbrev main_call3_cst : Ref sig .tc := ⟨.hbm, 168, rfl⟩
abbrev main_call3_v1 : Ref sig .tc := ⟨.hbm, 169, rfl⟩
abbrev main_call3_v2 : Ref sig .tc := ⟨.hbm, 170, rfl⟩
abbrev main_v115 : Ref sig .tc := ⟨.hbm, 171, rfl⟩
abbrev main_cst_10 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_cst_11 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_call4_v0 : Ref sig .tc := ⟨.hbm, 184, rfl⟩
abbrev main_call4_cst : Ref sig .tc := ⟨.hbm, 185, rfl⟩
abbrev main_call4_v1 : Ref sig .tc := ⟨.hbm, 186, rfl⟩
abbrev main_call4_v2 : Ref sig .tc := ⟨.hbm, 187, rfl⟩
abbrev main_v126 : Ref sig .tc := ⟨.hbm, 188, rfl⟩
abbrev main_cst_12 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_call5_v0 : Ref sig .tc := ⟨.hbm, 194, rfl⟩
abbrev main_call5_v1 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_call5_v5 : Ref sig .tc := ⟨.hbm, 199, rfl⟩
abbrev main_call5_v6 : Ref sig .tc := ⟨.hbm, 200, rfl⟩
abbrev main_call5_v7 : Ref sig .tc := ⟨.hbm, 201, rfl⟩
abbrev main_call5_v8 : Ref sig .tc := ⟨.hbm, 202, rfl⟩
abbrev main_call5_v9 : Ref sig .tc := ⟨.hbm, 203, rfl⟩
abbrev main_call5_v10 : Ref sig .tc := ⟨.hbm, 204, rfl⟩
abbrev main_call5_v11 : Ref sig .tc := ⟨.hbm, 205, rfl⟩
abbrev main_call5_v12 : Ref sig .tc := ⟨.hbm, 206, rfl⟩
abbrev main_call5_v13 : Ref sig .tc := ⟨.hbm, 207, rfl⟩
abbrev main_call5_v14 : Ref sig .tc := ⟨.hbm, 208, rfl⟩
abbrev main_call5_v15 : Ref sig .tc := ⟨.hbm, 209, rfl⟩
abbrev main_call5_v16 : Ref sig .tc := ⟨.hbm, 210, rfl⟩
abbrev main_call5_v17 : Ref sig .tc := ⟨.hbm, 211, rfl⟩
abbrev main_call5_v18 : Ref sig .tc := ⟨.hbm, 212, rfl⟩
abbrev main_call5_v19 : Ref sig .tc := ⟨.hbm, 213, rfl⟩
abbrev main_call5_v20 : Ref sig .tc := ⟨.hbm, 214, rfl⟩
abbrev main_call5_v21 : Ref sig .tc := ⟨.hbm, 215, rfl⟩
abbrev main_call5_v22 : Ref sig .tc := ⟨.hbm, 216, rfl⟩
abbrev main_call5_v23 : Ref sig .tc := ⟨.hbm, 217, rfl⟩
abbrev main_call5_v24 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩

abbrev nD : Nat := 1
abbrev τ : Topo := Topo.v7x

variable {F : FTy → Type} [FloatOps F]
-- ==== Proof.Block.lean ====
/-
  What one grid point of the kernel computes, written once over the block's arrays: the contracted block, the three
  unit vectors of every residue's frame, the five groups of seventeen channels, and the tile of 128 result columns that
  interleaves the groups.  The same text serves the program at the words and its idealization.
-/
module

public import proofs.«01_k».proof.Proof.Gen.KernelIdeal

@[expose] public section

noncomputable section

namespace Cert.Placement

open Idealize.ShloMosaic
open Cert.KernelIdeal Cert.KernelIdeal.Facts₀ Cert.KernelIdeal.Facts

variable {F : FTy → Type} [FloatOps F]

/-! ## The block's arithmetic -/

/-- The weights, transposed, times the block of residue types: eighty-five rows of sums over the twenty types. -/
def contracted (st : FVec F S20x4096 .f32) (w : FVec F S85x20 .f32) : FVec F S85x4096 .f32 :=
  matmul dot_S85x20_S20x4096_S85x4096_1_0_0_1_n_n none (shapeCast S85x20 w shapeCasts_S85x20_S85x20)
    (shapeCast S20x4096 st shapeCasts_S20x4096_S20x4096) (constant S85x4096 .f32 0x00000000#32)

/-- Atom `a`'s three coordinates. -/
def atom (bb : FVec F S3x3x4096 .f32) (a : Nat) (h : S3x3x4096.Slices ![a, 0, 0] S1x3x4096) : FVec F S3x4096 .f32 :=
  shapeCast S3x4096 (extractStridedSlice S1x3x4096 ![a, 0, 0] (shapeCast S3x3x4096 bb shapeCasts_S3x3x4096_S3x3x4096) h)
    shapeCasts_S1x3x4096_S3x4096

/-- The middle atom, the frame's origin. -/
def origin (bb : FVec F S3x3x4096 .f32) : FVec F S3x4096 .f32 := atom bb 1 slices_S3x3x4096_o1_0_0_S1x3x4096

/-- The sum of a vector's three coordinates, as one row. -/
def total (v : FVec F S3x4096 .f32) : FVec F S1x4096 .f32 :=
  shapeCast S1x4096 (multiReduction .add [0] S4096 v 0x00000000#32 reduces_S3x4096_S4096 (.inl rfl) rfl) shapeCasts_S4096_S1x4096

/-- A vector over its length plus the small constant. -/
def unit (v : FVec F S3x4096 .f32) : FVec F S3x4096 .f32 :=
  divf v (broadcastTo S3x4096 (addf (sqrt (total (mulf v v))) (broadcast S1x4096 (Scalar.ofBits .f32 0x322BCC77#32)))
    broadcasts_S1x4096_S3x4096)

/-- The first axis: the unit vector of the third atom from the origin. -/
def axis1 (bb : FVec F S3x3x4096 .f32) : FVec F S3x4096 .f32 :=
  unit (subf (atom bb 2 slices_S3x3x4096_o2_0_0_S1x3x4096) (origin bb))

/-- The first atom from the origin. -/
def arm (bb : FVec F S3x3x4096 .f32) : FVec F S3x4096 .f32 :=
  subf (atom bb 0 slices_S3x3x4096_o0_0_0_S1x3x4096) (origin bb)

/-- The second axis: the unit vector of the first atom's part across the first axis. -/
def axis2 (bb : FVec F S3x3x4096 .f32) : FVec F S3x4096 .f32 :=
  unit (subf (arm bb) (mulf (axis1 bb) (broadcastTo S3x4096 (total (mulf (axis1 bb) (arm bb))) broadcasts_S1x4096_S3x4096)))

/-- Coordinate `a` of a vector, as one row. -/
def coord (v : FVec F S3x4096 .f32) (a : Nat) (h : S3x4096.Slices ![a, 0] S1x4096) : FVec F S1x4096 .f32 :=
  extractStridedSlice S1x4096 ![a, 0] v h

/-- The cross product of two vectors, row by row. -/
def crossed (u v : FVec F S3x4096 .f32) : FVec F S3x4096 .f32 :=
  concatenate S3x4096 0
    [⟨S1x4096, subf (mulf (coord u 1 slices_S3x4096_o1_0_S1x4096) (coord v 2 slices_S3x4096_o2_0_S1x4096))
        (mulf (coord u 2 slices_S3x4096_o2_0_S1x4096) (coord v 1 slices_S3x4096_o1_0_S1x4096))⟩,
     ⟨S1x4096, subf (mulf (coord u 2 slices_S3x4096_o2_0_S1x4096) (coord v 0 slices_S3x4096_o0_0_S1x4096))
        (mulf (coord u 0 slices_S3x4096_o0_0_S1x4096) (coord v 2 slices_S3x4096_o2_0_S1x4096))⟩,
     ⟨S1x4096, subf (mulf (coord u 0 slices_S3x4096_o0_0_S1x4096) (coord v 1 slices_S3x4096_o1_0_S1x4096))
        (mulf (coord u 1 slices_S3x4096_o1_0_S1x4096) (coord v 0 slices_S3x4096_o0_0_S1x4096))⟩]
    concatenates_S1x4096_S1x4096_S1x4096_S3x4096_d0

/-- Pseudo-atom `p`'s rows lie inside the contracted block: one row at `17 p + r`, -/
theorem row_inside {p r : Nat} (hp : p < 5) (hr : r < 17) : S85x4096.Slices ![p * 17 + r, 0] S1x4096 :=
  ⟨rfl, fun a => by
    match a with
    | ⟨0, _⟩ => show p * 17 + r + 1 ≤ 85; omega
    | ⟨1, _⟩ => show 0 + 4096 ≤ 4096; omega⟩

/-- and thirteen from `17 p + 3`. -/
theorem rows_inside {p : Nat} (hp : p < 5) : S85x4096.Slices ![p * 17 + 3, 0] S13x4096 :=
  ⟨rfl, fun a => by
    match a with
    | ⟨0, _⟩ => show p * 17 + 3 + 13 ≤ 85; omega
    | ⟨1, _⟩ => show 0 + 4096 ≤ 4096; omega⟩

/-- Row `r` of pseudo-atom `p`. -/
def row (m : FVec F S85x4096 .f32) (p r : Nat) (hp : p < 5) (hr : r < 17) : FVec F S1x4096 .f32 :=
  extractStridedSlice S1x4096 ![p * 17 + r, 0] m (row_inside hp hr)

/-- The reciprocal of pseudo-atom `p`'s total weight. -/
def recip (m : FVec F S85x4096 .f32) (p : Nat) (hp : p < 5) : FVec F S1x4096 .f32 :=
  divf (broadcast S1x4096 (Scalar.ofBits .f32 0x3F800000#32)) (row m p 16 hp (by omega))

/-- Mean coordinate `r` of pseudo-atom `p` along the axis `e`. -/
def along (m : FVec F S85x4096 .f32) (p r : Nat) (hp : p < 5) (hr : r < 17) (e : FVec F S3x4096 .f32) : FVec F S3x4096 .f32 :=
  mulf (broadcastTo S3x4096 (mulf (row m p r hp hr) (recip m p hp)) broadcasts_S1x4096_S3x4096) e

/-- Pseudo-atom `p`'s seventeen channels: the placed position, the thirteen means, the total weight. -/
def group (m : FVec F S85x4096 .f32) (bb : FVec F S3x3x4096 .f32) (p : Nat) (hp : p < 5) : FVec F S17x4096 .f32 :=
  concatenate S17x4096 0
    [⟨S3x4096, addf (addf (addf (along m p 0 hp (by omega) (axis1 bb)) (along m p 1 hp (by omega) (axis2 bb)))
        (along m p 2 hp (by omega) (crossed (axis1 bb) (axis2 bb)))) (origin bb)⟩,
     ⟨S13x4096, mulf (extractStridedSlice S13x4096 ![p * 17 + 3, 0] m (rows_inside hp))
        (broadcastTo S13x4096 (recip m p hp) broadcasts_S1x4096_S13x4096)⟩,
     ⟨S1x4096, row m p 16 hp (by omega)⟩]
    concatenates_S3x4096_S13x4096_S1x4096_S17x4096_d0

/-! ## The interleaving -/

/-- The lane number along 640 columns. -/
def lanes : IVec S17x640 32 := iota .tc S17x640 32 [1] iota_S17x640_d1_w32

/-- The lane number over five, rounded down, as the program spells it. -/
def fifth : IVec S17x640 32 :=
  select
    (andi
      (cmpi .ne
        (subi (extui 32 (cmpi .sgt lanes (broadcast S17x640 0#32)) natLt_1_32)
          (extui 32 (cmpi .slt lanes (broadcast S17x640 0#32)) natLt_1_32))
        (broadcast S17x640 (Scalar.subi (Scalar.extui (Scalar.cmpi .sgt 5#32 0#32)) (Scalar.extui (Scalar.cmpi .slt 5#32 0#32)))))
      (cmpi .ne (remsi lanes (broadcast S17x640 5#32)) (broadcast S17x640 0#32)))
    (subi (divsi lanes (broadcast S17x640 5#32)) (broadcast S17x640 1#32))
    (divsi lanes (broadcast S17x640 5#32))

/-- The divisor of the remainder, as the program spells it: five. -/
def five : BitVec 32 := Scalar.select (Scalar.cmpi .eq 5#32 0#32) 1#32 5#32

/-- The lane number modulo five, as the program spells it. -/
def modulo : IVec S17x640 32 :=
  select
    (andi
      (xori (cmpi .slt (remsi lanes (broadcast S17x640 five)) (broadcast S17x640 0#32))
        (broadcastTo S17x640 (broadcast S17x640 (Scalar.cmpi .slt five 0#32)) broadcasts_S17x640_S17x640))
      (cmpi .ne (remsi lanes (broadcast S17x640 five)) (broadcast S17x640 0#32)))
    (addi (remsi lanes (broadcast S17x640 five)) (broadcast S17x640 five))
    (remsi lanes (broadcast S17x640 five))

/-- One where the lane number is `p` modulo five, zero elsewhere. -/
def mask (p : BitVec 32) : FVec F S17x640 .f32 :=
  sitofp .f32 (extui 32 (cmpi .eq modulo (broadcast S17x640 p)) natLt_1_32)

/-- 128 columns of the 640 from `128 k` on. -/
theorem part_inside {k : Nat} (hk : k < 5) : S17x640.Slices ![0, k * 128] S17x128 :=
  ⟨rfl, fun a => by
    match a with
    | ⟨0, _⟩ => show 0 + 17 ≤ 17; omega
    | ⟨1, _⟩ => show k * 128 + 128 ≤ 640; omega⟩

/-- 128 columns of the 4096 from `128 u` on. -/
theorem span_inside {u : Nat} (hu : u < 32) : S17x4096.Slices ![0, u * 128] S17x128 :=
  ⟨rfl, fun a => by
    match a with
    | ⟨0, _⟩ => show 0 + 17 ≤ 17; omega
    | ⟨1, _⟩ => show u * 128 + 128 ≤ 4096; omega⟩

/-- The columns to take for part `k`. -/
def picks (k : Nat) (hk : k < 5) : IVec S17x128 32 := extractStridedSlice S17x128 ![0, k * 128] fifth (part_inside hk)

/-- The same as the gather takes them: a negative one counted from the end. -/
def picked (k : Nat) (hk : k < 5) : IVec S17x128 32 :=
  shapeCast S17x128
    (shapeCast S17x128x1
      (select (cmpi .slt (picks k hk) (broadcast S17x128 0#32)) (addi (picks k hk) (broadcast S17x128 128#32)) (picks k hk))
      shapeCasts_S17x128_S17x128x1) shapeCasts_S17x128x1_S17x128

/-- Group `g`'s share of part `k` of span `u`: its columns taken, kept where the lane number is `p` modulo five. -/
def share (g : FVec F S17x4096 .f32) (p : BitVec 32) (u k : Nat) (hu : u < 32) (hk : k < 5) : FVec F S17x128 .f32 :=
  mulf (dynamicGather 1 (extractStridedSlice S17x128 ![0, u * 128] g (span_inside hu)) (picked k hk))
    (extractStridedSlice S17x128 ![0, k * 128] (mask p) (part_inside hk))

/-- The 128 columns the body stores for part `k` of span `u`. -/
def tile (m : FVec F S85x4096 .f32) (bb : FVec F S3x3x4096 .f32) (u k : Nat) (hu : u < 32) (hk : k < 5) : FVec F S17x128 .f32 :=
  addf (addf (addf (addf (share (group m bb 0 (by omega)) 0#32 u k hu hk) (share (group m bb 1 (by omega)) 1#32 u k hu hk))
    (share (group m bb 2 (by omega)) 2#32 u k hu hk)) (share (group m bb 3 (by omega)) 3#32 u k hu hk))
    (share (group m bb 4 (by omega)) 4#32 u k hu hk)

/-- The `n`-th of the 160 stores' columns: part `n % 5` of span `n / 5`. -/
def stored (m : FVec F S85x4096 .f32) (bb : FVec F S3x3x4096 .f32) (n : Nat) (h : n < 160) : FVec F S17x128 .f32 :=
  tile m bb (n / 5) (n % 5) (by omega) (by omega)

end Cert.Placement

end
-- ==== Proof.BodyIdeal.lean ====
/-
  The kernel's body as a short program: three whole loads, then 160 stores of 128 columns each, every one after a load
  of the columns it overwrites whose result nothing reads.  It is the printed body by unfolding.
-/
module

public import proofs.«01_k».proof.Proof.Block
public import proofs.«01_k».proof.Proof.Gen.KernelIdeal

@[expose] public section

noncomputable section

namespace Cert.KernelIdeal.Placement

open Idealize.ShloMosaic Idealize.SL.Sem
open Cert.Placement
open Cert.KernelIdeal Cert.KernelIdeal.Facts₀ Cert.KernelIdeal.Facts

variable {F : FTy → Type} [FloatOps F]

/-- The `n`-th store's columns lie inside the block of the result. -/
theorem store_inside {n : Nat} (h : n < 160) : ∀ a, (![0, n * 128] : Fin 2 → Nat) a + S17x128.size a ≤ S17x20480.size a := fun a => by
  match a with
  | ⟨0, _⟩ => show 0 + 17 ≤ 17; omega
  | ⟨1, _⟩ => show n * 128 + 128 ≤ 20480; omega

/-- The rectangle of the `n`-th store. -/
abbrev columns (n : Nat) (h : n < 160) : Rect S17x20480 := Rect.unit (s := S17x20480) ![0, n * 128] S17x128.size (store_inside h)

/-- One store of 128 columns, after the load of what they held. -/
def step (o : Memref sig .tc .vmem S17x20480 .f32) (v : (n : Nat) → n < 160 → FVec F S17x128 .f32) (n : Nat) (h : n < 160)
    (rest : Prog (TpuEff nD τ sig (Elt F) Λ₀ .tc) PUnit) : Prog (TpuEff nD τ sig (Elt F) Λ₀ .tc) PUnit :=
  Prog.op (.load o (columns n h).toLoadRect (View.loadsAt_vmem h_S17x128)) fun _ =>
    Prog.op (.store o (columns n h) (v n h) Finset.univ (View.stores_vmem_bits_univ h_S17x128 rfl) (.inl rfl)) fun _ => rest

/-- The last `r` of the 160 stores. -/
def stores (o : Memref sig .tc .vmem S17x20480 .f32) (v : (n : Nat) → n < 160 → FVec F S17x128 .f32) (r : Nat) :
    r ≤ 160 → Prog (TpuEff nD τ sig (Elt F) Λ₀ .tc) PUnit :=
  Nat.rec (motive := fun r => r ≤ 160 → Prog (TpuEff nD τ sig (Elt F) Λ₀ .tc) PUnit) (fun _ => .ret ⟨⟩)
    (fun r ih h => step o v (159 - r) (by omega) (ih (by omega))) r

/-- The body: the loads of the two blocks and the weights, then the stores. -/
def body (a1 : Memref sig .tc .vmem S20x4096 .f32) (a2 : Memref sig .tc .vmem S3x3x4096 .f32) (a3 : Memref sig .tc .vmem S85x20 .f32)
    (o : Memref sig .tc .vmem S17x20480 .f32) : Prog (TpuEff nD τ sig (Elt F) Λ₀ .tc) PUnit :=
  Prog.op (.load a1 (Rect.unit (s := S20x4096) ![0, 0] S20x4096.size inb_S20x4096_S20x4096_0_0).toLoadRect (View.loadsAt_vmem h_S20x4096)) fun (st : Vec F S20x4096 .f32) =>
    Prog.op (.load a2 (Rect.unit (s := S3x3x4096) ![0, 0, 0] S3x3x4096.size inb_S3x3x4096_S3x3x4096_0_0_0).toLoadRect (View.loadsAt_vmem h_S3x3x4096)) fun (bb : Vec F S3x3x4096 .f32) =>
      Prog.op (.load a3 (Rect.unit (s := S85x20) ![0, 0] S85x20.size inb_S85x20_S85x20_0_0).toLoadRect (View.loadsAt_vmem h_S85x20)) fun (w : Vec F S85x20 .f32) =>
        stores o (stored (contracted (F := F) st w) bb) 160 (Nat.le_refl 160)

set_option maxRecDepth 1000000 in
set_option maxHeartbeats 0 in
/-- The printed body is that program. -/
theorem body_eq (i : grid0.Coords) (a1 : Memref sig .tc .vmem S20x4096 .f32) (h1 : a1.IsWhole) (a2 : Memref sig .tc .vmem S3x3x4096 .f32) (h2 : a2.IsWhole)
    (a3 : Memref sig .tc .vmem S85x20 .f32) (h3 : a3.IsWhole) (o : Memref sig .tc .vmem S17x20480 .f32) (h4 : o.IsWhole) :
    cc0__body (F := F) i a1 h1 a2 h2 a3 h3 o h4 = body a1 a2 a3 o := rfl

end Cert.KernelIdeal.Placement

end
-- ==== Proof.RunIdeal.lean ====
/-
  What the kernel's body does to its staging buffers: the inputs stay, and the result's buffer ends holding, in every
  128 columns, what that store wrote there.
-/
module

public import proofs.«01_k».proof.Proof.BodyIdeal
public import proofs.«01_k».proof.Proof.Gen.KernelIdeal.Launch
public import Idealize.ShloMosaic.Lib.Pipeline.KitQuiescent
public import Idealize.ShloMosaic.Lib.Tactic

@[expose] public section

noncomputable section

namespace Cert.KernelIdeal.Placement

open Cert.KernelIdeal Cert.KernelIdeal.Gen Cert.Placement

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- The place within its 128 columns of a place of the result's block. -/
def within (i : S17x20480.Idx) : S17x128.Idx := fun a => match a with
  | ⟨0, _⟩ => ⟨(i (0 : Fin 2)).val, (i (0 : Fin 2)).isLt⟩
  | ⟨1, _⟩ => ⟨(i (1 : Fin 2)).val % 128, Nat.mod_lt _ (by show 0 < 128; decide)⟩

/-- The 160 stores' columns side by side. -/
def laid (v : (n : Nat) → n < 160 → FVec F S17x128 .f32) : S17x20480.Idx → Elt F .f32 := fun i =>
  v ((i (1 : Fin 2)).val / 128) (by have := (i (1 : Fin 2)).isLt; change (i (1 : Fin 2)).val < 20480 at this; omega) (within i)

/-- A store's rectangle sends a place of its columns to that place, `128 n` columns on. -/
theorem columns_emb (v : (n : Nat) → n < 160 → FVec F S17x128 .f32) (n : Nat) (h : n < 160) (x : S17x128.Idx) :
    laid v ((columns n h).emb x) = v n h x := by
  have h0 : ((columns n h).emb x (0 : Fin 2)).val = 0 + 1 * (x (0 : Fin 2)).val := rfl
  have h1 : ((columns n h).emb x (1 : Fin 2)).val = n * 128 + 1 * (x (1 : Fin 2)).val := rfl
  have hx : (x (1 : Fin 2)).val < 128 := (x (1 : Fin 2)).isLt
  have hn : ((columns n h).emb x (1 : Fin 2)).val / 128 = n := by rw [h1]; omega
  have hw : within ((columns n h).emb x) = x := funext fun a => by
    match a with
    | ⟨0, _⟩ => exact Fin.ext (by show ((columns n h).emb x (0 : Fin 2)).val = _; rw [h0]; show _ = (x (0 : Fin 2)).val; omega)
    | ⟨1, _⟩ => exact Fin.ext (by show ((columns n h).emb x (1 : Fin 2)).val % 128 = _; rw [h1]; show _ = (x (1 : Fin 2)).val; omega)
  unfold laid
  rw [hw]
  congr 1

/-- The stores, from a buffer that already holds their columns before those still to come. -/
theorem stores_sound (c : Dev nD) (E : Set ℕ) (o : Memref sig .tc .vmem S17x20480 .f32)
    (v : (n : Nat) → n < 160 → FVec F S17x128 .f32) (K : PUnit → sProp 𝕄) (r : Nat) (h : r ≤ 160) :
    ∀ X : S17x20480.Idx → Elt F .f32, (∀ i, (i (1 : Fin 2)).val < (160 - r) * 128 → X i = laid v i) →
      (iprop(owns (c : Thread nD τ) o fullShare X ∗ (owns (c : Thread nD τ) o fullShare (laid v) -∗ K ⟨⟩))
        ⊢ wp frame (wpE (defs₀ (F := F)) 𝒱₀ c none) E (stores o v r h) K) := by
  induction r with
  | zero =>
    intro X hX
    have : X = laid v := funext fun i => hX i (by have := (i (1 : Fin 2)).isLt; change (i (1 : Fin 2)).val < 20480 at this; omega)
    subst this
    show _ ⊢ wp frame (wpE (defs₀ (F := F)) 𝒱₀ c none) E (.ret ⟨⟩) K
    iintro ⟨H, Hk⟩
    sl_steps
    iapply Hk
    iexact H
  | succ r ih =>
    intro X hX
    show _ ⊢ wp frame (wpE (defs₀ (F := F)) 𝒱₀ c none) E (step o v (159 - r) (by omega) (stores o v r (by omega))) K
    unfold step
    have hn : 159 - r < 160 := by omega
    have hsub : (o.access (columns (159 - r) hn)).set ⊆ o.view.set := View.set_slice_subset (v := o.view) _
    have hY : ∀ f, o.view.read (Elt F) f = X → ∀ i : S17x20480.Idx, (i (1 : Fin 2)).val < (160 - r) * 128 →
        o.view.read (Elt F) ((o.access (columns (159 - r) hn)).write (Elt F) f (v (159 - r) hn) Finset.univ) i = laid v i := by
      intro f hf i hi
      by_cases hm : i ∈ Finset.univ.map (columns (159 - r) hn).emb
      · obtain ⟨x, -, rfl⟩ := Finset.mem_map.mp hm
        rw [columns_emb]
        exact View.read_slice_write_emb (v := o.view) (columns (159 - r) hn) f (v (159 - r) hn) (Finset.mem_univ x)
      · rw [← hX i ?_, ← hf]
        · exact View.read_slice_write_of_not_mem (v := o.view) (columns (159 - r) hn) f (v (159 - r) hn) Finset.univ hm
        · by_contra hlt
          apply hm
          rw [Rect.map_emb_univ, Rect.mem_set_unit]
          intro a
          match a with
          | ⟨0, _⟩ => exact ⟨Nat.zero_le _, by have := (i (0 : Fin 2)).isLt; change (i (0 : Fin 2)).val < 17 at this; show (i (0 : Fin 2)).val < 0 + 17; omega⟩
          | ⟨1, _⟩ => exact ⟨by show (159 - r) * 128 ≤ (i (1 : Fin 2)).val; omega, by show (i (1 : Fin 2)).val < (159 - r) * 128 + 128; omega⟩
    unfold owns at ih ⊢
    iintro ⟨⟨%f, %hf, H⟩, Hk⟩
    iapply (wp_load_rect 𝒱₀ (c : Thread nD τ) none E (m := o) (r := columns (159 - r) hn) (f := f) hsub) $$ H
    iintro H
    iapply (wp_store 𝒱₀ (c : Thread nD τ) none E (m := o) (r := columns (159 - r) hn) (f := f) (Mk := Finset.univ) hsub) $$ H
    iintro H
    iapply (ih (Nat.le_of_succ_le h) (o.view.read (Elt F) ((o.access (columns (159 - r) hn)).write (Elt F) f (v (159 - r) hn) Finset.univ)) (hY f hf))
    isplitl [H]
    · iexists _; isplitr; · ipureintro; rfl
      iexact H
    · iexact Hk

/-- What the body leaves in the result's buffer, of the blocks and the weights. -/
def made (st : FVec F S20x4096 .f32) (bb : FVec F S3x3x4096 .f32) (w : FVec F S85x20 .f32) : S17x20480.Idx → Elt F .f32 :=
  laid (stored (contracted st w) bb)

/-- A whole load, at the head of a program, of a buffer held whole. -/
theorem load_whole (c : Dev nD) (E : Set ℕ) {s : Shape} (o : Memref sig .tc .vmem s .f32) (off : Fin s.rank → Nat) (hz : off = fun _ => 0)
    (inb : ∀ a, off a + s.size a ≤ s.size a) (hl : o.view.LoadsAt (Rect.unit off s.size inb).toLoadRect)
    (k : Vec F s .f32 → Prog (TpuEff nD τ sig (Elt F) Λ₀ .tc) PUnit) (X : s.Idx → Elt F .f32) (K : PUnit → sProp 𝕄) :
    iprop(owns (c : Thread nD τ) o fullShare X)
      ⊢ iprop((owns (c : Thread nD τ) o fullShare X -∗ wp frame (wpE (defs₀ (F := F)) 𝒱₀ c none) E (k X) K)
        -∗ wp frame (wpE (defs₀ (F := F)) 𝒱₀ c none) E (.op (.load o (Rect.unit off s.size inb).toLoadRect hl) k) K) := by
  subst hz
  have hsub : (o.access (Rect.unit (fun _ => 0) s.size inb)).set ⊆ o.view.set := View.set_slice_subset (v := o.view) _
  unfold owns
  iintro ⟨%f, %hf, H⟩ Hk
  have hr : (o.access (Rect.unit (fun _ => 0) s.size inb)).read (Elt F) f = X := by
    rw [← hf]
    exact funext fun x => congrArg (o.view.read (Elt F) f) (Rect.emb_whole_apply s x)
  iapply (wp_load_rect 𝒱₀ (c : Thread nD τ) none E (m := o) (r := Rect.unit (fun _ => 0) s.size inb) (f := f) hsub) $$ H
  iintro H
  rw [hr]
  iapply Hk
  iexists f
  isplitr; · ipureintro; exact hf
  iexact H

/-- The body's run. -/
theorem sound_body (c : Dev nD) (E : Set ℕ) (i : grid0.Coords) (a1 : Memref sig .tc .vmem S20x4096 .f32) (h1 : a1.IsWhole)
    (a2 : Memref sig .tc .vmem S3x3x4096 .f32) (h2 : a2.IsWhole) (a3 : Memref sig .tc .vmem S85x20 .f32) (h3 : a3.IsWhole)
    (o : Memref sig .tc .vmem S17x20480 .f32) (h4 : o.IsWhole)
    (X0 : S20x4096.Idx → Elt F .f32) (X1 : S3x3x4096.Idx → Elt F .f32) (X2 : S85x20.Idx → Elt F .f32) (X3 : S17x20480.Idx → Elt F .f32)
    (K : PUnit → sProp 𝕄) :
    iprop((owns (c : Thread nD τ) a1 fullShare X0 ∗ owns (c : Thread nD τ) a2 fullShare X1
            ∗ owns (c : Thread nD τ) a3 fullShare X2 ∗ owns (c : Thread nD τ) o fullShare X3)
          ∗ (iprop(owns (c : Thread nD τ) a1 fullShare X0 ∗ owns (c : Thread nD τ) a2 fullShare X1
            ∗ owns (c : Thread nD τ) a3 fullShare X2 ∗ owns (c : Thread nD τ) o fullShare (made X0 X1 X2)) -∗ K ⟨⟩))
      ⊢ wp frame (wpE (defs₀ (F := F)) 𝒱₀ c none) E (cc0__body i a1 h1 a2 h2 a3 h3 o h4) K := by
  have hz2 : (![0, 0] : Fin 2 → Nat) = fun _ => 0 := funext fun a => by fin_cases a <;> rfl
  have hz3 : (![0, 0, 0] : Fin 3 → Nat) = fun _ => 0 := funext fun a => by fin_cases a <;> rfl
  rw [body_eq]
  unfold body
  iintro ⟨⟨H0, H1, H2, H3⟩, Hk⟩
  iapply (load_whole c E a1 ![0, 0] hz2 _ _ _ X0 K) $$ H0
  iintro H0
  iapply (load_whole c E a2 ![0, 0, 0] hz3 _ _ _ X1 K) $$ H1
  iintro H1
  iapply (load_whole c E a3 ![0, 0] hz2 _ _ _ X2 K) $$ H2
  iintro H2
  iapply (stores_sound c E o (stored (contracted X0 X2) X1) K 160 (Nat.le_refl 160) X3 (fun i hi => absurd hi (by omega)))
  isplitl [H3]
  · iexact H3
  iintro H3
  iapply Hk
  isplitl [H0]; · iexact H0
  isplitl [H1]; · iexact H1
  isplitl [H2]; · iexact H2
  iexact H3

end Cert.KernelIdeal.Placement

end
-- ==== Proof.FrameIdeal.lean ====
/-
  The launch of the kernel with nothing said of what the region moves: every weakly fair execution terminates, the
  argument arrays end as they began, and every semaphore counter ends at zero.
-/
module

public import proofs.«01_k».proof.Proof.RunIdeal
public import Idealize.ShloMosaic.Lib.Pipeline.FrameSuffix

@[expose] public section

noncomputable section

namespace Cert.KernelIdeal.Placement

open Cert.KernelIdeal Cert.KernelIdeal.Gen Cert.Placement

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Device `c`'s buffers when the region is entered, after the host lines before it. -/
abbrev entry (c : Dev nD) : Valuation τ sig (Elt F) := StableHlo.after (List.flatten [hostOps0]) (fun b => m (c, b))

/-- The host lines before the region allocate nothing, -/
theorem before_fresh : (hostOps0 : List (HloOp τ sig (Elt F))).Forall fun op => op.fresh = ∅ := by
  simp only [List.Forall]; repeat' constructor

/-- nor does the one after it. -/
theorem after_fresh : (hostOps1 : List (HloOp τ sig (Elt F))).Forall fun op => op.fresh = ∅ := by
  simp only [List.Forall]; repeat' constructor

/-- The program is the host lines, the region, the transposition. -/
theorem main_around : Pipeline.HMainK (Ix := Unit) (Name := ℕ) (U := UR sig nD τ) (Lvl := ℕ) cfgs 0 defs₀ 𝒱₀ m (main (F := F))
    (fun c b => entry m c (Proc.devRef .tc b)) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact before_fresh) main_chain

/-- The transposition touches arrays of the region and buffers the region does not touch, -/
theorem last_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_singleton] at hops
  subst hops
  exact Pipeline.sub_ucRefs op ((List.forall_iff_forall_mem.mp hostOps1_sub) op hop)

/-- allocates nothing, -/
theorem last_fresh : ∀ ops ∈ ([hostOps1] : List (List (HloOp τ sig (Elt F)))), ∀ op ∈ ops, op.fresh = ∅ := by
  intro ops hops op hop
  rw [List.mem_singleton] at hops
  subst hops
  exact (List.forall_iff_forall_mem.mp after_fresh) op hop

/-- writes the result of the program only, -/
theorem last_writes : ∀ ops ∈ ([hostOps1] : List (List (HloOp τ sig (Elt F)))), ∀ op ∈ ops,
    ∀ b : Ref sig .tc, Proc.devRef .tc b ∈ op.writes → b ∈ ({main_v0} : Finset (Ref sig .tc)) := by
  intro ops hops op hop b hb
  rw [List.mem_singleton] at hops
  subst hops
  rw [List.mem_singleton] at hop
  subst hop
  have := Finset.mem_singleton.mp (show Proc.devRef .tc b ∈ ({Proc.devRef .tc main_v0} : Finset (DevRef τ sig)) from hb)
  rw [Finset.mem_singleton]
  exact Proc.devRef_injective _ this

/-- and so no array of the region. -/
theorem last_keeps : ∀ ops ∈ ([hostOps1] : List (List (HloOp τ sig (Elt F)))), ∀ op ∈ ops,
    ∀ w, Proc.devRef .tc (Pipeline.arrRef spec0 w) ∉ op.writes := by
  intro ops hops op hop w hw
  exact (by decide : ∀ w, Pipeline.arrRef spec0 w ∉ ({main_v0} : Finset (Ref sig .tc))) w (last_writes ops hops op hop _ hw)

/-- Proof data that names nothing: the arrays at their contents at the region's entry. -/
def blank (_ : Fin 1) (c : Dev nD) : Dat τ (Elt F) Unit ℕ (UR sig nD τ) ℕ cfg0 c where
  A w := entry m c (Proc.devRef .tc (Pipeline.arrRef spec0 w))
  after w _ := fun _ => Classical.choice inferInstance
  Φ _ := Pipeline.ΦA spec0 c
  q _ := fullShare
  owed _ := 0

/-- The body runs from any staging contents. -/
theorem blank_body (c : Dev nD) : BodyObligationLoose (blank m 0 c) (defs₀ (F := F)) 𝒱₀ () Set.univ (fun _ => true) := fun t => by
  rw [bigSep_W0]
  simp only
  rw [show (blank m 0 c).Φ t.succ = (blank m 0 c).Φ t.castSucc from rfl,
    show (blank m 0 c).owesAt () t.succ = (blank m 0 c).owesAt () t.castSucc from rfl]
  iintro ⟨HΦ, Ho, ⟨%X0, H0⟩, ⟨%X1, H1⟩, ⟨%X2, H2⟩, ⟨%X3, H3⟩⟩
  iapply (sound_body (F := F) c Set.univ (grid0.coords t) (stage0_0 (cfg0.slots t 0)) (hstage0_0 _) (stage0_1 (cfg0.slots t 1)) (hstage0_1 _)
    (stage0_2 (cfg0.slots t 2)) (hstage0_2 _) (stage0_3 (cfg0.slots t 3)) (hstage0_3 _) X0 X1 X2 X3 _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexists X0; iexact H0
  isplitl [H1]; · iexists X1; iexact H1
  isplitl [H2]; · iexists X2; iexact H2
  iexists _; iexact H3

/-- What the launch says when the region's arrays are left unnamed. -/
def Blank : PUnit × MemSt nD τ sig (Elt F) → Prop := fun r =>
  (∀ c : Dev nD, ∀ b ∈ Pipeline.restRefs sig spec0 \ {main_v0}, r.2.mem ((c.tc : Thread nD τ).loc b) = entry m c (Proc.devRef .tc b))
    ∧ r.2.sem = fun _ => 0

set_option backward.isDefEq.respectTransparency.types false in
/-- The launch. -/
theorem run_blank : θ_run defs (onTc (τ := τ) (main (F := F))) (s₀ m ρ) (Blank m) :=
  Pipeline.θ_run_frame_around_T_forget cfgs (blank m) (0 : Fin 1) launch0 defs₀ 𝒱₀ (fun _ => true) {main_v0} m ρ main
    (hbody := blank_body m) (hshare := fun c => (blank m 0 c).share_full fun _ => rfl) (howed := fun _ _ => rfl)
    (V₀ := entry m) (opss := [hostOps1]) (hsub := last_sub) (hfresh := last_fresh) (hkeep := last_keeps) (hT := last_writes)
    (hmain := main_around m) (hA := fun _ _ => rfl) (hΦ := fun _ _ => rfl)
    (Q' := Blank m) (hQ' := fun _ h => ⟨fun c => (h.1 c).2, h.2⟩)

/-- What the host lines before the region write, in order. -/
def beforeWrites : List (Ref sig .tc) :=
  [main_call0_v0, main_call0_v1, main_call0_v2, main_call0_v3, main_call0_v4, main_call0_v5, main_call0_v6, main_call0_v7, main_call0_v8,
   main_call0_v9, main_call0_v10, main_call0_v11, main_call0_v12, main_call0_v13, main_call0_v14, main_call0_v15, main_call0_v16,
   main_call0_v17, main_call0_v18]

/-- A buffer they do not write is at the region's entry what it was at the start. -/
theorem entry_kept (c : Dev nD) (b : Ref sig .tc) (hb : b ∉ beforeWrites) : entry m c (Proc.devRef .tc b) = m ((c.tc : Thread nD τ).loc b) :=
  StableHlo.after_of_writes_sub (W := beforeWrites) _ _ (StableHlo.forall_writes_sub_of_map rfl) hb

/-- The eight argument buffers. -/
def arguments : List (Ref sig .tc) := [main_arg0, main_arg1, main_arg2, main_arg3, main_arg4, main_arg5, main_arg6, main_arg7]

/-- No argument is an array of the region or the program's result, nor is one written by a host line. -/
theorem arguments_apart : ∀ b ∈ arguments, b ∈ Pipeline.restRefs sig spec0 \ {main_v0} ∧ b ∉ beforeWrites := by decide +kernel

/-- After the launch every argument holds what it held. -/
theorem blank_arguments {r : PUnit × MemSt nD τ sig (Elt F)} (h : Blank m r) (c : Dev nD) (b : Ref sig .tc) (hb : b ∈ arguments) :
    r.2.mem ((c.tc : Thread nD τ).loc b) = m ((c.tc : Thread nD τ).loc b) :=
  (h.1 c b (arguments_apart b hb).1).trans (entry_kept m c b (arguments_apart b hb).2)

/-- The frame: the arguments end unchanged and every counter ends at zero. -/
theorem frame_run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).2 (fun r h => ⟨fun c => by refine ⟨?_, ?_, ?_, ?_, ?_, ?_, ?_, ?_⟩ <;> exact blank_arguments m h c _ (by simp [arguments]), h.2⟩) (run_blank m ρ)

end Cert.KernelIdeal.Placement

end
-- ==== Proof.RefOps.lean ====
/-
  The reference as one line of host operations: its functions' bodies and its own statements, in order.
-/
module

public import proofs.«01_k».proof.Proof.Gen.ReferenceIdeal
public import Idealize.ShloMosaic.Lib.StableHlo.RunHlo
public import Idealize.ShloMosaic.Lib.StableHlo.RunRead

@[expose] public section

noncomputable section

namespace Cert.ReferenceIdeal.Line

open Cert.ReferenceIdeal Cert.ReferenceIdeal.Facts₀ Cert.ReferenceIdeal.Facts
open Idealize.ShloMosaic Idealize.SL.Sem

variable {F : FTy → Type} [FloatOps F]

/-- The operations of the length of a vector. -/
abbrev normOps (arg0 : StableHlo.TRef sig ⟨S1x50000x3, .f32⟩) (φ : fn_norm.Bufs) : List (HloOp τ sig (Elt F)) :=
  [ StableHlo.TRef.binary arg0 arg0 φ.v0 mulf,
    StableHlo.TRef.nullary φ.cst (constant S_ .f32 0x00000000#32),
    StableHlo.TRef.binary φ.v0 φ.cst φ.v1 (fun x v => Host.reduceAdd x v reducesTo_S1x50000x3_S1x50000_d2 h_S_),
    StableHlo.TRef.unary φ.v1 φ.v2 (broadcastInDim S1x50000x1 ![0, 1] bcast_S1x50000_S1x50000x1_0_1),
    StableHlo.TRef.unary φ.v2 φ.v3 Host.sqrt ]

/-- The operations of the cross product. -/
abbrev crossOps (arg0 : StableHlo.TRef sig ⟨S1x50000x3, .f32⟩) (arg1 : StableHlo.TRef sig ⟨S1x50000x3, .f32⟩) (φ : fn_cross.Bufs) : List (HloOp τ sig (Elt F)) :=
  [ StableHlo.TRef.unary arg0 φ.v0 (extractStridedSlice S1x50000x1 ![0, 0, 0] · slices_S1x50000x3_S1x50000x1_0_0_0),
    StableHlo.TRef.reshape φ.v0 φ.v1 (rfl : (.f32 : EltTy) = .f32) shapeCasts_S1x50000x1_S1x50000,
    StableHlo.TRef.unary arg0 φ.v2 (extractStridedSlice S1x50000x1 ![0, 0, 1] · slices_S1x50000x3_S1x50000x1_0_0_1),
    StableHlo.TRef.reshape φ.v2 φ.v3 (rfl : (.f32 : EltTy) = .f32) shapeCasts_S1x50000x1_S1x50000,
    StableHlo.TRef.unary arg0 φ.v4 (extractStridedSlice S1x50000x1 ![0, 0, 2] · slices_S1x50000x3_S1x50000x1_0_0_2),
    StableHlo.TRef.reshape φ.v4 φ.v5 (rfl : (.f32 : EltTy) = .f32) shapeCasts_S1x50000x1_S1x50000,
    StableHlo.TRef.unary arg1 φ.v6 (extractStridedSlice S1x50000x1 ![0, 0, 0] · slices_S1x50000x3_S1x50000x1_0_0_0),
    StableHlo.TRef.reshape φ.v6 φ.v7 (rfl : (.f32 : EltTy) = .f32) shapeCasts_S1x50000x1_S1x50000,
    StableHlo.TRef.unary arg1 φ.v8 (extractStridedSlice S1x50000x1 ![0, 0, 1] · slices_S1x50000x3_S1x50000x1_0_0_1),
    StableHlo.TRef.reshape φ.v8 φ.v9 (rfl : (.f32 : EltTy) = .f32) shapeCasts_S1x50000x1_S1x50000,
    StableHlo.TRef.unary arg1 φ.v10 (extractStridedSlice S1x50000x1 ![0, 0, 2] · slices_S1x50000x3_S1x50000x1_0_0_2),
    StableHlo.TRef.reshape φ.v10 φ.v11 (rfl : (.f32 : EltTy) = .f32) shapeCasts_S1x50000x1_S1x50000,
    StableHlo.TRef.binary φ.v3 φ.v11 φ.v12 mulf,
    StableHlo.TRef.binary φ.v5 φ.v9 φ.v13 mulf,
    StableHlo.TRef.binary φ.v12 φ.v13 φ.v14 subf,
    StableHlo.TRef.binary φ.v5 φ.v7 φ.v15 mulf,
    StableHlo.TRef.binary φ.v1 φ.v11 φ.v16 mulf,
    StableHlo.TRef.binary φ.v15 φ.v16 φ.v17 subf,
    StableHlo.TRef.binary φ.v1 φ.v9 φ.v18 mulf,
    StableHlo.TRef.binary φ.v3 φ.v7 φ.v19 mulf,
    StableHlo.TRef.binary φ.v18 φ.v19 φ.v20 subf,
    StableHlo.TRef.unary φ.v14 φ.v21 (broadcastInDim S1x1x50000 ![1, 2] bcast_S1x50000_S1x1x50000_1_2),
    StableHlo.TRef.unary φ.v17 φ.v22 (broadcastInDim S1x1x50000 ![1, 2] bcast_S1x50000_S1x1x50000_1_2),
    StableHlo.TRef.unary φ.v20 φ.v23 (broadcastInDim S1x1x50000 ![1, 2] bcast_S1x50000_S1x1x50000_1_2),
    StableHlo.TRef.nary ![φ.v21, φ.v22, φ.v23] φ.v24 (fun u => (concatenate S3x1x50000 0 [⟨S1x1x50000, (u 0 : (⟨S1x1x50000, .f32⟩ : BufTy).Contents (Elt F))⟩, ⟨S1x1x50000, (u 1 : (⟨S1x1x50000, .f32⟩ : BufTy).Contents (Elt F))⟩, ⟨S1x1x50000, (u 2 : (⟨S1x1x50000, .f32⟩ : BufTy).Contents (Elt F))⟩] concatenates_S1x1x50000_S1x1x50000_S1x1x50000_S3x1x50000_d0 : (⟨S3x1x50000, .f32⟩ : BufTy).Contents (Elt F))),
    StableHlo.TRef.unary φ.v24 φ.v25 (transpose S1x50000x3 [1, 2, 0] · transposes_S3x1x50000_S1x50000x3_1_2_0) ]

/-- Statements of the reference, stretch 1. -/
abbrev stretch1 : List (HloOp τ sig (Elt F)) :=
  [ StableHlo.unary main_arg0 main_v0 (broadcastInDim S50000x20x1x1 ![0, 1] bcast_S50000x20_S50000x20x1x1_0_1 : (⟨S50000x20, .f32⟩ : BufTy).Contents (Elt F) → (⟨S50000x20x1x1, .f32⟩ : BufTy).Contents (Elt F)),
    StableHlo.unary main_v0 main_v1 (broadcastInDim S50000x20x5x1 ![0, 1, 2, 3] bcast_S50000x20x1x1_S50000x20x5x1_0_1_2_3 : (⟨S50000x20x1x1, .f32⟩ : BufTy).Contents (Elt F) → (⟨S50000x20x5x1, .f32⟩ : BufTy).Contents (Elt F)),
    StableHlo.unary main_arg6 main_v2 (broadcastInDim S50000x20x5x1 ![0, 1, 2, 3] bcast_S1x20x5x1_S50000x20x5x1_0_1_2_3 : (⟨S1x20x5x1, .f32⟩ : BufTy).Contents (Elt F) → (⟨S50000x20x5x1, .f32⟩ : BufTy).Contents (Elt F)),
    StableHlo.binary main_v1 main_v2 main_v3 (mulf : (⟨S50000x20x5x1, .f32⟩ : BufTy).Contents (Elt F) → (⟨S50000x20x5x1, .f32⟩ : BufTy).Contents (Elt F) → (⟨S50000x20x5x1, .f32⟩ : BufTy).Contents (Elt F)),
    StableHlo.nullary main_cst (constant S_ .f32 0x00000000#32),
    StableHlo.binary main_v3 main_cst main_v4 ((fun x v => Host.reduceAdd x v reducesTo_S50000x20x5x1_S50000x5x1_d1 h_S_) : (⟨S50000x20x5x1, .f32⟩ : BufTy).Contents (Elt F) → (⟨S_, .f32⟩ : BufTy).Contents (Elt F) → (⟨S50000x5x1, .f32⟩ : BufTy).Contents (Elt F)),
    StableHlo.unary main_v0 main_v5 (broadcastInDim S50000x20x5x3 ![0, 1, 2, 3] bcast_S50000x20x1x1_S50000x20x5x3_0_1_2_3 : (⟨S50000x20x1x1, .f32⟩ : BufTy).Contents (Elt F) → (⟨S50000x20x5x3, .f32⟩ : BufTy).Contents (Elt F)),
    StableHlo.unary main_arg4 main_v6 (broadcastInDim S50000x20x5x3 ![0, 1, 2, 3] bcast_S1x20x5x3_S50000x20x5x3_0_1_2_3 : (⟨S1x20x5x3, .f32⟩ : BufTy).Contents (Elt F) → (⟨S50000x20x5x3, .f32⟩ : BufTy).Contents (Elt F)),
    StableHlo.binary main_v5 main_v6 main_v7 (mulf : (⟨S50000x20x5x3, .f32⟩ : BufTy).Contents (Elt F) → (⟨S50000x20x5x3, .f32⟩ : BufTy).Contents (Elt F) → (⟨S50000x20x5x3, .f32⟩ : BufTy).Contents (Elt F)),
    StableHlo.unary main_arg6 main_v8 (broadcastInDim S50000x20x5x3 ![0, 1, 2, 3] bcast_S1x20x5x1_S50000x20x5x3_0_1_2_3 : (⟨S1x20x5x1, .f32⟩ : BufTy).Contents (Elt F) → (⟨S50000x20x5x3, .f32⟩ : BufTy).Contents (Elt F)),
    StableHlo.binary main_v7 main_v8 main_v9 (mulf : (⟨S50000x20x5x3, .f32⟩ : BufTy).Contents (Elt F) → (⟨S50000x20x5x3, .f32⟩ : BufTy).Contents (Elt F) → (⟨S50000x20x5x3, .f32⟩ : BufTy).Contents (Elt F)),
    StableHlo.nullary main_cst_0 (constant S_ .f32 0x00000000#32),
    StableHlo.binary main_v9 main_cst_0 main_v10 ((fun x v => Host.reduceAdd x v reducesTo_S50000x20x5x3_S50000x5x3_d1 h_S_) : (⟨S50000x20x5x3, .f32⟩ : BufTy).Contents (Elt F) → (⟨S_, .f32⟩ : BufTy).Contents (Elt F) → (⟨S50000x5x3, .f32⟩ : BufTy).Contents (Elt F)),
    StableHlo.unary main_v4 main_v11 (broadcastInDim S50000x5x3 ![0, 1, 2] bcast_S50000x5x1_S50000x5x3_0_1_2 : (⟨S50000x5x1, .f32⟩ : BufTy).Contents (Elt F) → (⟨S50000x5x3, .f32⟩ : BufTy).Contents (Elt F)),
    StableHlo.binary main_v10 main_v11 main_v12 (Host.divf : (⟨S50000x5x3, .f32⟩ : BufTy).Contents (Elt F) → (⟨S50000x5x3, .f32⟩ : BufTy).Contents (Elt F) → (⟨S50000x5x3, .f32⟩ : BufTy).Contents (Elt F)),
    StableHlo.unary main_v0 main_v13 (broadcastInDim S50000x20x5x12 ![0, 1, 2, 3] bcast_S50000x20x1x1_S50000x20x5x12_0_1_2_3 : (⟨S50000x20x1x1, .f32⟩ : BufTy).Contents (Elt F) → (⟨S50000x20x5x12, .f32⟩ : BufTy).Contents (Elt F)),
    StableHlo.unary main_arg5 main_v14 (broadcastInDim S50000x20x5x12 ![0, 1, 2, 3] bcast_S1x20x5x12_S50000x20x5x12_0_1_2_3 : (⟨S1x20x5x12, .f32⟩ : BufTy).Contents (Elt F) → (⟨S50000x20x5x12, .f32⟩ : BufTy).Contents (Elt F)),
    StableHlo.binary main_v13 main_v14 main_v15 (mulf : (⟨S50000x20x5x12, .f32⟩ : BufTy).Contents (Elt F) → (⟨S50000x20x5x12, .f32⟩ : BufTy).Contents (Elt F) → (⟨S50000x20x5x12, .f32⟩ : BufTy).Contents (Elt F)),
    StableHlo.unary main_arg6 main_v16 (broadcastInDim S50000x20x5x12 ![0, 1, 2, 3] bcast_S1x20x5x1_S50000x20x5x12_0_1_2_3 : (⟨S1x20x5x1, .f32⟩ : BufTy).Contents (Elt F) → (⟨S50000x20x5x12, .f32⟩ : BufTy).Contents (Elt F)),
    StableHlo.binary main_v15 main_v16 main_v17 (mulf : (⟨S50000x20x5x12, .f32⟩ : BufTy).Contents (Elt F) → (⟨S50000x20x5x12, .f32⟩ : BufTy).Contents (Elt F) → (⟨S50000x20x5x12, .f32⟩ : BufTy).Contents (Elt F)),
    StableHlo.nullary main_cst_1 (constant S_ .f32 0x00000000#32),
    StableHlo.binary main_v17 main_cst_1 main_v18 ((fun x v => Host.reduceAdd x v reducesTo_S50000x20x5x12_S50000x5x12_d1 h_S_) : (⟨S50000x20x5x12, .f32⟩ : BufTy).Contents (Elt F) → (⟨S_, .f32⟩ : BufTy).Contents (Elt F) → (⟨S50000x5x12, .f32⟩ : BufTy).Contents (Elt F)),
    StableHlo.unary main_v4 main_v19 (broadcastInDim S50000x5x12 ![0, 1, 2] bcast_S50000x5x1_S50000x5x12_0_1_2 : (⟨S50000x5x1, .f32⟩ : BufTy).Contents (Elt F) → (⟨S50000x5x12, .f32⟩ : BufTy).Contents (Elt F)),
    StableHlo.binary main_v18 main_v19 main_v20 (Host.divf : (⟨S50000x5x12, .f32⟩ : BufTy).Contents (Elt F) → (⟨S50000x5x12, .f32⟩ : BufTy).Contents (Elt F) → (⟨S50000x5x12, .f32⟩ : BufTy).Contents (Elt F)),
    StableHlo.unary main_v0 main_v21 (broadcastInDim S50000x20x5x1 ![0, 1, 2, 3] bcast_S50000x20x1x1_S50000x20x5x1_0_1_2_3 : (⟨S50000x20x1x1, .f32⟩ : BufTy).Contents (Elt F) → (⟨S50000x20x5x1, .f32⟩ : BufTy).Contents (Elt F)),
    StableHlo.unary main_arg7 main_v22 (broadcastInDim S50000x20x5x1 ![0, 1, 2, 3] bcast_S1x20x5x1_S50000x20x5x1_0_1_2_3 : (⟨S1x20x5x1, .f32⟩ : BufTy).Contents (Elt F) → (⟨S50000x20x5x1, .f32⟩ : BufTy).Contents (Elt F)),
    StableHlo.binary main_v21 main_v22 main_v23 (mulf : (⟨S50000x20x5x1, .f32⟩ : BufTy).Contents (Elt F) → (⟨S50000x20x5x1, .f32⟩ : BufTy).Contents (Elt F) → (⟨S50000x20x5x1, .f32⟩ : BufTy).Contents (Elt F)),
    StableHlo.unary main_arg6 main_v24 (broadcastInDim S50000x20x5x1 ![0, 1, 2, 3] bcast_S1x20x5x1_S50000x20x5x1_0_1_2_3 : (⟨S1x20x5x1, .f32⟩ : BufTy).Contents (Elt F) → (⟨S50000x20x5x1, .f32⟩ : BufTy).Contents (Elt F)),
    StableHlo.binary main_v23 main_v24 main_v25 (mulf : (⟨S50000x20x5x1, .f32⟩ : BufTy).Contents (Elt F) → (⟨S50000x20x5x1, .f32⟩ : BufTy).Contents (Elt F) → (⟨S50000x20x5x1, .f32⟩ : BufTy).Contents (Elt F)),
    StableHlo.nullary main_cst_2 (constant S_ .f32 0x00000000#32),
    StableHlo.binary main_v25 main_cst_2 main_v26 ((fun x v => Host.reduceAdd x v reducesTo_S50000x20x5x1_S50000x5x1_d1 h_S_) : (⟨S50000x20x5x1, .f32⟩ : BufTy).Contents (Elt F) → (⟨S_, .f32⟩ : BufTy).Contents (Elt F) → (⟨S50000x5x1, .f32⟩ : BufTy).Contents (Elt F)),
    StableHlo.binary main_v26 main_v4 main_v27 (Host.divf : (⟨S50000x5x1, .f32⟩ : BufTy).Contents (Elt F) → (⟨S50000x5x1, .f32⟩ : BufTy).Contents (Elt F) → (⟨S50000x5x1, .f32⟩ : BufTy).Contents (Elt F)),
    StableHlo.unary main_arg1 main_v28 ((extractStridedSlice S50000x1x3 ![0, 0, 0] · slices_S50000x3x3_S50000x1x3_0_0_0) : (⟨S50000x3x3, .f32⟩ : BufTy).Contents (Elt F) → (⟨S50000x1x3, .f32⟩ : BufTy).Contents (Elt F)),
    StableHlo.reshape main_v28 main_v29 (rfl : (.f32 : EltTy) = .f32) shapeCasts_S50000x1x3_S50000x3,
    StableHlo.unary main_v29 main_v30 (broadcastInDim S1x50000x3 ![1, 2] bcast_S50000x3_S1x50000x3_1_2 : (⟨S50000x3, .f32⟩ : BufTy).Contents (Elt F) → (⟨S1x50000x3, .f32⟩ : BufTy).Contents (Elt F)),
    StableHlo.unary main_arg1 main_v31 ((extractStridedSlice S50000x1x3 ![0, 1, 0] · slices_S50000x3x3_S50000x1x3_0_1_0) : (⟨S50000x3x3, .f32⟩ : BufTy).Contents (Elt F) → (⟨S50000x1x3, .f32⟩ : BufTy).Contents (Elt F)),
    StableHlo.reshape main_v31 main_v32 (rfl : (.f32 : EltTy) = .f32) shapeCasts_S50000x1x3_S50000x3,
    StableHlo.unary main_v32 main_v33 (broadcastInDim S1x50000x3 ![1, 2] bcast_S50000x3_S1x50000x3_1_2 : (⟨S50000x3, .f32⟩ : BufTy).Contents (Elt F) → (⟨S1x50000x3, .f32⟩ : BufTy).Contents (Elt F)),
    StableHlo.unary main_arg1 main_v34 ((extractStridedSlice S50000x1x3 ![0, 2, 0] · slices_S50000x3x3_S50000x1x3_0_2_0) : (⟨S50000x3x3, .f32⟩ : BufTy).Contents (Elt F) → (⟨S50000x1x3, .f32⟩ : BufTy).Contents (Elt F)),
    StableHlo.reshape main_v34 main_v35 (rfl : (.f32 : EltTy) = .f32) shapeCasts_S50000x1x3_S50000x3,
    StableHlo.unary main_v35 main_v36 (broadcastInDim S1x50000x3 ![1, 2] bcast_S50000x3_S1x50000x3_1_2 : (⟨S50000x3, .f32⟩ : BufTy).Contents (Elt F) → (⟨S1x50000x3, .f32⟩ : BufTy).Contents (Elt F)),
    StableHlo.binary main_v36 main_v33 main_v37 (subf : (⟨S1x50000x3, .f32⟩ : BufTy).Contents (Elt F) → (⟨S1x50000x3, .f32⟩ : BufTy).Contents (Elt F) → (⟨S1x50000x3, .f32⟩ : BufTy).Contents (Elt F)),
    StableHlo.binary main_v30 main_v33 main_v38 (subf : (⟨S1x50000x3, .f32⟩ : BufTy).Contents (Elt F) → (⟨S1x50000x3, .f32⟩ : BufTy).Contents (Elt F) → (⟨S1x50000x3, .f32⟩ : BufTy).Contents (Elt F)) ]

/-- Statements of the reference, stretch 2. -/
abbrev stretch2 : List (HloOp τ sig (Elt F)) :=
  [ StableHlo.nullary main_cst_3 (constant S_ .f32 0x322BCC77#32),
    StableHlo.unary main_cst_3 main_v40 (broadcastInDim S1x50000x1 ![] bcast_S_S1x50000x1 : (⟨S_, .f32⟩ : BufTy).Contents (Elt F) → (⟨S1x50000x1, .f32⟩ : BufTy).Contents (Elt F)),
    StableHlo.binary main_v39 main_v40 main_v41 (addf : (⟨S1x50000x1, .f32⟩ : BufTy).Contents (Elt F) → (⟨S1x50000x1, .f32⟩ : BufTy).Contents (Elt F) → (⟨S1x50000x1, .f32⟩ : BufTy).Contents (Elt F)),
    StableHlo.unary main_v41 main_v42 (broadcastInDim S1x50000x3 ![0, 1, 2] bcast_S1x50000x1_S1x50000x3_0_1_2 : (⟨S1x50000x1, .f32⟩ : BufTy).Contents (Elt F) → (⟨S1x50000x3, .f32⟩ : BufTy).Contents (Elt F)),
    StableHlo.binary main_v37 main_v42 main_v43 (Host.divf : (⟨S1x50000x3, .f32⟩ : BufTy).Contents (Elt F) → (⟨S1x50000x3, .f32⟩ : BufTy).Contents (Elt F) → (⟨S1x50000x3, .f32⟩ : BufTy).Contents (Elt F)),
    StableHlo.binary main_v43 main_v38 main_v44 (mulf : (⟨S1x50000x3, .f32⟩ : BufTy).Contents (Elt F) → (⟨S1x50000x3, .f32⟩ : BufTy).Contents (Elt F) → (⟨S1x50000x3, .f32⟩ : BufTy).Contents (Elt F)),
    StableHlo.nullary main_cst_4 (constant S_ .f32 0x00000000#32),
    StableHlo.binary main_v44 main_cst_4 main_v45 ((fun x v => Host.reduceAdd x v reducesTo_S1x50000x3_S1x50000_d2 h_S_) : (⟨S1x50000x3, .f32⟩ : BufTy).Contents (Elt F) → (⟨S_, .f32⟩ : BufTy).Contents (Elt F) → (⟨S1x50000, .f32⟩ : BufTy).Contents (Elt F)),
    StableHlo.unary main_v45 main_v46 (broadcastInDim S1x50000x1 ![0, 1] bcast_S1x50000_S1x50000x1_0_1 : (⟨S1x50000, .f32⟩ : BufTy).Contents (Elt F) → (⟨S1x50000x1, .f32⟩ : BufTy).Contents (Elt F)),
    StableHlo.unary main_v46 main_v47 (broadcastInDim S1x50000x3 ![0, 1, 2] bcast_S1x50000x1_S1x50000x3_0_1_2 : (⟨S1x50000x1, .f32⟩ : BufTy).Contents (Elt F) → (⟨S1x50000x3, .f32⟩ : BufTy).Contents (Elt F)),
    StableHlo.binary main_v43 main_v47 main_v48 (mulf : (⟨S1x50000x3, .f32⟩ : BufTy).Contents (Elt F) → (⟨S1x50000x3, .f32⟩ : BufTy).Contents (Elt F) → (⟨S1x50000x3, .f32⟩ : BufTy).Contents (Elt F)),
    StableHlo.binary main_v38 main_v48 main_v49 (subf : (⟨S1x50000x3, .f32⟩ : BufTy).Contents (Elt F) → (⟨S1x50000x3, .f32⟩ : BufTy).Contents (Elt F) → (⟨S1x50000x3, .f32⟩ : BufTy).Contents (Elt F)) ]

/-- Statements of the reference, stretch 3. -/
abbrev stretch3 : List (HloOp τ sig (Elt F)) :=
  [ StableHlo.nullary main_cst_5 (constant S_ .f32 0x322BCC77#32),
    StableHlo.unary main_cst_5 main_v51 (broadcastInDim S1x50000x1 ![] bcast_S_S1x50000x1 : (⟨S_, .f32⟩ : BufTy).Contents (Elt F) → (⟨S1x50000x1, .f32⟩ : BufTy).Contents (Elt F)),
    StableHlo.binary main_v50 main_v51 main_v52 (addf : (⟨S1x50000x1, .f32⟩ : BufTy).Contents (Elt F) → (⟨S1x50000x1, .f32⟩ : BufTy).Contents (Elt F) → (⟨S1x50000x1, .f32⟩ : BufTy).Contents (Elt F)),
    StableHlo.unary main_v52 main_v53 (broadcastInDim S1x50000x3 ![0, 1, 2] bcast_S1x50000x1_S1x50000x3_0_1_2 : (⟨S1x50000x1, .f32⟩ : BufTy).Contents (Elt F) → (⟨S1x50000x3, .f32⟩ : BufTy).Contents (Elt F)),
    StableHlo.binary main_v49 main_v53 main_v54 (Host.divf : (⟨S1x50000x3, .f32⟩ : BufTy).Contents (Elt F) → (⟨S1x50000x3, .f32⟩ : BufTy).Contents (Elt F) → (⟨S1x50000x3, .f32⟩ : BufTy).Contents (Elt F)) ]

/-- Statements of the reference, stretch 4. -/
abbrev stretch4 : List (HloOp τ sig (Elt F)) :=
  [ StableHlo.unary main_v43 main_v56 (broadcastInDim S1x50000x3x1 ![0, 1, 2] bcast_S1x50000x3_S1x50000x3x1_0_1_2 : (⟨S1x50000x3, .f32⟩ : BufTy).Contents (Elt F) → (⟨S1x50000x3x1, .f32⟩ : BufTy).Contents (Elt F)),
    StableHlo.unary main_v54 main_v57 (broadcastInDim S1x50000x3x1 ![0, 1, 2] bcast_S1x50000x3_S1x50000x3x1_0_1_2 : (⟨S1x50000x3, .f32⟩ : BufTy).Contents (Elt F) → (⟨S1x50000x3x1, .f32⟩ : BufTy).Contents (Elt F)),
    StableHlo.unary main_v55 main_v58 (broadcastInDim S1x50000x3x1 ![0, 1, 2] bcast_S1x50000x3_S1x50000x3x1_0_1_2 : (⟨S1x50000x3, .f32⟩ : BufTy).Contents (Elt F) → (⟨S1x50000x3x1, .f32⟩ : BufTy).Contents (Elt F)),
    StableHlo.nary ![main_v56, main_v57, main_v58] main_v59 (fun u => (concatenate S1x50000x3x3 3 [⟨S1x50000x3x1, (u 0 : (⟨S1x50000x3x1, .f32⟩ : BufTy).Contents (Elt F))⟩, ⟨S1x50000x3x1, (u 1 : (⟨S1x50000x3x1, .f32⟩ : BufTy).Contents (Elt F))⟩, ⟨S1x50000x3x1, (u 2 : (⟨S1x50000x3x1, .f32⟩ : BufTy).Contents (Elt F))⟩] concatenates_S1x50000x3x1_S1x50000x3x1_S1x50000x3x1_S1x50000x3x3_d3 : (⟨S1x50000x3x3, .f32⟩ : BufTy).Contents (Elt F))),
    StableHlo.reshape main_v59 main_v60 (rfl : (.f32 : EltTy) = .f32) shapeCasts_S1x50000x3x3_S50000x3x3,
    StableHlo.unary main_v12 main_v61 ((transpose S5x50000x3 [1, 0, 2] · transposes_S50000x5x3_S5x50000x3_1_0_2) : (⟨S50000x5x3, .f32⟩ : BufTy).Contents (Elt F) → (⟨S5x50000x3, .f32⟩ : BufTy).Contents (Elt F)),
    StableHlo.binary main_v61 main_v60 main_v62 ((fun l r => Host.dotGeneral dot_S5x50000x3_S50000x3x3_S50000x5x3_2_2_0_1_1_0 none l r) : (⟨S5x50000x3, .f32⟩ : BufTy).Contents (Elt F) → (⟨S50000x3x3, .f32⟩ : BufTy).Contents (Elt F) → (⟨S50000x5x3, .f32⟩ : BufTy).Contents (Elt F)),
    StableHlo.unary main_v62 main_v63 ((transpose S5x50000x3 [1, 0, 2] · transposes_S50000x5x3_S5x50000x3_1_0_2) : (⟨S50000x5x3, .f32⟩ : BufTy).Contents (Elt F) → (⟨S5x50000x3, .f32⟩ : BufTy).Contents (Elt F)),
    StableHlo.reshape main_v33 main_v64 (rfl : (.f32 : EltTy) = .f32) shapeCasts_S1x50000x3_S50000x3,
    StableHlo.unary main_v64 main_v65 (broadcastInDim S1x50000x3 ![1, 2] bcast_S50000x3_S1x50000x3_1_2 : (⟨S50000x3, .f32⟩ : BufTy).Contents (Elt F) → (⟨S1x50000x3, .f32⟩ : BufTy).Contents (Elt F)),
    StableHlo.unary main_v65 main_v66 (broadcastInDim S5x50000x3 ![0, 1, 2] bcast_S1x50000x3_S5x50000x3_0_1_2 : (⟨S1x50000x3, .f32⟩ : BufTy).Contents (Elt F) → (⟨S5x50000x3, .f32⟩ : BufTy).Contents (Elt F)),
    StableHlo.binary main_v63 main_v66 main_v67 (addf : (⟨S5x50000x3, .f32⟩ : BufTy).Contents (Elt F) → (⟨S5x50000x3, .f32⟩ : BufTy).Contents (Elt F) → (⟨S5x50000x3, .f32⟩ : BufTy).Contents (Elt F)),
    StableHlo.unary main_v67 main_v68 ((transpose S50000x5x3 [1, 0, 2] · transposes_S5x50000x3_S50000x5x3_1_0_2) : (⟨S5x50000x3, .f32⟩ : BufTy).Contents (Elt F) → (⟨S50000x5x3, .f32⟩ : BufTy).Contents (Elt F)),
    StableHlo.reshape main_v68 main_v69 (rfl : (.f32 : EltTy) = .f32) shapeCasts_S50000x5x3_S250000x3,
    StableHlo.reshape main_v20 main_v70 (rfl : (.f32 : EltTy) = .f32) shapeCasts_S50000x5x12_S250000x12,
    StableHlo.reshape main_v27 main_v71 (rfl : (.f32 : EltTy) = .f32) shapeCasts_S50000x5x1_S250000,
    StableHlo.reshape main_v4 main_v72 (rfl : (.f32 : EltTy) = .f32) shapeCasts_S50000x5x1_S250000,
    StableHlo.unary main_v71 main_v73 (broadcastInDim S250000x1 ![0] bcast_S250000_S250000x1_0 : (⟨S250000, .f32⟩ : BufTy).Contents (Elt F) → (⟨S250000x1, .f32⟩ : BufTy).Contents (Elt F)),
    StableHlo.unary main_v72 main_v74 (broadcastInDim S250000x1 ![0] bcast_S250000_S250000x1_0 : (⟨S250000, .f32⟩ : BufTy).Contents (Elt F) → (⟨S250000x1, .f32⟩ : BufTy).Contents (Elt F)),
    StableHlo.nary ![main_v69, main_v70, main_v73, main_v74] main_v75 (fun u => (concatenate S250000x17 1 [⟨S250000x3, (u 0 : (⟨S250000x3, .f32⟩ : BufTy).Contents (Elt F))⟩, ⟨S250000x12, (u 1 : (⟨S250000x12, .f32⟩ : BufTy).Contents (Elt F))⟩, ⟨S250000x1, (u 2 : (⟨S250000x1, .f32⟩ : BufTy).Contents (Elt F))⟩, ⟨S250000x1, (u 3 : (⟨S250000x1, .f32⟩ : BufTy).Contents (Elt F))⟩] concatenates_S250000x3_S250000x12_S250000x1_S250000x1_S250000x17_d1 : (⟨S250000x17, .f32⟩ : BufTy).Contents (Elt F))) ]

/-- Statements of the reference, stretch 5. -/
abbrev stretch5 : List (HloOp τ sig (Elt F)) :=
  [ StableHlo.unary main_arg2 main_v76 (broadcastInDim S50000x20x1x1 ![0, 1] bcast_S50000x20_S50000x20x1x1_0_1 : (⟨S50000x20, .f32⟩ : BufTy).Contents (Elt F) → (⟨S50000x20x1x1, .f32⟩ : BufTy).Contents (Elt F)),
    StableHlo.unary main_v76 main_v77 (broadcastInDim S50000x20x5x1 ![0, 1, 2, 3] bcast_S50000x20x1x1_S50000x20x5x1_0_1_2_3 : (⟨S50000x20x1x1, .f32⟩ : BufTy).Contents (Elt F) → (⟨S50000x20x5x1, .f32⟩ : BufTy).Contents (Elt F)),
    StableHlo.unary main_arg6 main_v78 (broadcastInDim S50000x20x5x1 ![0, 1, 2, 3] bcast_S1x20x5x1_S50000x20x5x1_0_1_2_3 : (⟨S1x20x5x1, .f32⟩ : BufTy).Contents (Elt F) → (⟨S50000x20x5x1, .f32⟩ : BufTy).Contents (Elt F)),
    StableHlo.binary main_v77 main_v78 main_v79 (mulf : (⟨S50000x20x5x1, .f32⟩ : BufTy).Contents (Elt F) → (⟨S50000x20x5x1, .f32⟩ : BufTy).Contents (Elt F) → (⟨S50000x20x5x1, .f32⟩ : BufTy).Contents (Elt F)),
    StableHlo.nullary main_cst_6 (constant S_ .f32 0x00000000#32),
    StableHlo.binary main_v79 main_cst_6 main_v80 ((fun x v => Host.reduceAdd x v reducesTo_S50000x20x5x1_S50000x5x1_d1 h_S_) : (⟨S50000x20x5x1, .f32⟩ : BufTy).Contents (Elt F) → (⟨S_, .f32⟩ : BufTy).Contents (Elt F) → (⟨S50000x5x1, .f32⟩ : BufTy).Contents (Elt F)),
    StableHlo.unary main_v76 main_v81 (broadcastInDim S50000x20x5x3 ![0, 1, 2, 3] bcast_S50000x20x1x1_S50000x20x5x3_0_1_2_3 : (⟨S50000x20x1x1, .f32⟩ : BufTy).Contents (Elt F) → (⟨S50000x20x5x3, .f32⟩ : BufTy).Contents (Elt F)),
    StableHlo.unary main_arg4 main_v82 (broadcastInDim S50000x20x5x3 ![0, 1, 2, 3] bcast_S1x20x5x3_S50000x20x5x3_0_1_2_3 : (⟨S1x20x5x3, .f32⟩ : BufTy).Contents (Elt F) → (⟨S50000x20x5x3, .f32⟩ : BufTy).Contents (Elt F)),
    StableHlo.binary main_v81 main_v82 main_v83 (mulf : (⟨S50000x20x5x3, .f32⟩ : BufTy).Contents (Elt F) → (⟨S50000x20x5x3, .f32⟩ : BufTy).Contents (Elt F) → (⟨S50000x20x5x3, .f32⟩ : BufTy).Contents (Elt F)),
    StableHlo.unary main_arg6 main_v84 (broadcastInDim S50000x20x5x3 ![0, 1, 2, 3] bcast_S1x20x5x1_S50000x20x5x3_0_1_2_3 : (⟨S1x20x5x1, .f32⟩ : BufTy).Contents (Elt F) → (⟨S50000x20x5x3, .f32⟩ : BufTy).Contents (Elt F)),
    StableHlo.binary main_v83 main_v84 main_v85 (mulf : (⟨S50000x20x5x3, .f32⟩ : BufTy).Contents (Elt F) → (⟨S50000x20x5x3, .f32⟩ : BufTy).Contents (Elt F) → (⟨S50000x20x5x3, .f32⟩ : BufTy).Contents (Elt F)),
    StableHlo.nullary main_cst_7 (constant S_ .f32 0x00000000#32),
    StableHlo.binary main_v85 main_cst_7 main_v86 ((fun x v => Host.reduceAdd x v reducesTo_S50000x20x5x3_S50000x5x3_d1 h_S_) : (⟨S50000x20x5x3, .f32⟩ : BufTy).Contents (Elt F) → (⟨S_, .f32⟩ : BufTy).Contents (Elt F) → (⟨S50000x5x3, .f32⟩ : BufTy).Contents (Elt F)),
    StableHlo.unary main_v80 main_v87 (broadcastInDim S50000x5x3 ![0, 1, 2] bcast_S50000x5x1_S50000x5x3_0_1_2 : (⟨S50000x5x1, .f32⟩ : BufTy).Contents (Elt F) → (⟨S50000x5x3, .f32⟩ : BufTy).Contents (Elt F)),
    StableHlo.binary main_v86 main_v87 main_v88 (Host.divf : (⟨S50000x5x3, .f32⟩ : BufTy).Contents (Elt F) → (⟨S50000x5x3, .f32⟩ : BufTy).Contents (Elt F) → (⟨S50000x5x3, .f32⟩ : BufTy).Contents (Elt F)),
    StableHlo.unary main_v76 main_v89 (broadcastInDim S50000x20x5x12 ![0, 1, 2, 3] bcast_S50000x20x1x1_S50000x20x5x12_0_1_2_3 : (⟨S50000x20x1x1, .f32⟩ : BufTy).Contents (Elt F) → (⟨S50000x20x5x12, .f32⟩ : BufTy).Contents (Elt F)),
    StableHlo.unary main_arg5 main_v90 (broadcastInDim S50000x20x5x12 ![0, 1, 2, 3] bcast_S1x20x5x12_S50000x20x5x12_0_1_2_3 : (⟨S1x20x5x12, .f32⟩ : BufTy).Contents (Elt F) → (⟨S50000x20x5x12, .f32⟩ : BufTy).Contents (Elt F)),
    StableHlo.binary main_v89 main_v90 main_v91 (mulf : (⟨S50000x20x5x12, .f32⟩ : BufTy).Contents (Elt F) → (⟨S50000x20x5x12, .f32⟩ : BufTy).Contents (Elt F) → (⟨S50000x20x5x12, .f32⟩ : BufTy).Contents (Elt F)),
    StableHlo.unary main_arg6 main_v92 (broadcastInDim S50000x20x5x12 ![0, 1, 2, 3] bcast_S1x20x5x1_S50000x20x5x12_0_1_2_3 : (⟨S1x20x5x1, .f32⟩ : BufTy).Contents (Elt F) → (⟨S50000x20x5x12, .f32⟩ : BufTy).Contents (Elt F)),
    StableHlo.binary main_v91 main_v92 main_v93 (mulf : (⟨S50000x20x5x12, .f32⟩ : BufTy).Contents (Elt F) → (⟨S50000x20x5x12, .f32⟩ : BufTy).Contents (Elt F) → (⟨S50000x20x5x12, .f32⟩ : BufTy).Contents (Elt F)),
    StableHlo.nullary main_cst_8 (constant S_ .f32 0x00000000#32),
    StableHlo.binary main_v93 main_cst_8 main_v94 ((fun x v => Host.reduceAdd x v reducesTo_S50000x20x5x12_S50000x5x12_d1 h_S_) : (⟨S50000x20x5x12, .f32⟩ : BufTy).Contents (Elt F) → (⟨S_, .f32⟩ : BufTy).Contents (Elt F) → (⟨S50000x5x12, .f32⟩ : BufTy).Contents (Elt F)),
    StableHlo.unary main_v80 main_v95 (broadcastInDim S50000x5x12 ![0, 1, 2] bcast_S50000x5x1_S50000x5x12_0_1_2 : (⟨S50000x5x1, .f32⟩ : BufTy).Contents (Elt F) → (⟨S50000x5x12, .f32⟩ : BufTy).Contents (Elt F)),
    StableHlo.binary main_v94 main_v95 main_v96 (Host.divf : (⟨S50000x5x12, .f32⟩ : BufTy).Contents (Elt F) → (⟨S50000x5x12, .f32⟩ : BufTy).Contents (Elt F) → (⟨S50000x5x12, .f32⟩ : BufTy).Contents (Elt F)),
    StableHlo.unary main_v76 main_v97 (broadcastInDim S50000x20x5x1 ![0, 1, 2, 3] bcast_S50000x20x1x1_S50000x20x5x1_0_1_2_3 : (⟨S50000x20x1x1, .f32⟩ : BufTy).Contents (Elt F) → (⟨S50000x20x5x1, .f32⟩ : BufTy).Contents (Elt F)),
    StableHlo.unary main_arg7 main_v98 (broadcastInDim S50000x20x5x1 ![0, 1, 2, 3] bcast_S1x20x5x1_S50000x20x5x1_0_1_2_3 : (⟨S1x20x5x1, .f32⟩ : BufTy).Contents (Elt F) → (⟨S50000x20x5x1, .f32⟩ : BufTy).Contents (Elt F)),
    StableHlo.binary main_v97 main_v98 main_v99 (mulf : (⟨S50000x20x5x1, .f32⟩ : BufTy).Contents (Elt F) → (⟨S50000x20x5x1, .f32⟩ : BufTy).Contents (Elt F) → (⟨S50000x20x5x1, .f32⟩ : BufTy).Contents (Elt F)),
    StableHlo.unary main_arg6 main_v100 (broadcastInDim S50000x20x5x1 ![0, 1, 2, 3] bcast_S1x20x5x1_S50000x20x5x1_0_1_2_3 : (⟨S1x20x5x1, .f32⟩ : BufTy).Contents (Elt F) → (⟨S50000x20x5x1, .f32⟩ : BufTy).Contents (Elt F)),
    StableHlo.binary main_v99 main_v100 main_v101 (mulf : (⟨S50000x20x5x1, .f32⟩ : BufTy).Contents (Elt F) → (⟨S50000x20x5x1, .f32⟩ : BufTy).Contents (Elt F) → (⟨S50000x20x5x1, .f32⟩ : BufTy).Contents (Elt F)),
    StableHlo.nullary main_cst_9 (constant S_ .f32 0x00000000#32),
    StableHlo.binary main_v101 main_cst_9 main_v102 ((fun x v => Host.reduceAdd x v reducesTo_S50000x20x5x1_S50000x5x1_d1 h_S_) : (⟨S50000x20x5x1, .f32⟩ : BufTy).Contents (Elt F) → (⟨S_, .f32⟩ : BufTy).Contents (Elt F) → (⟨S50000x5x1, .f32⟩ : BufTy).Contents (Elt F)),
    StableHlo.binary main_v102 main_v80 main_v103 (Host.divf : (⟨S50000x5x1, .f32⟩ : BufTy).Contents (Elt F) → (⟨S50000x5x1, .f32⟩ : BufTy).Contents (Elt F) → (⟨S50000x5x1, .f32⟩ : BufTy).Contents (Elt F)),
    StableHlo.unary main_arg3 main_v104 ((extractStridedSlice S50000x1x3 ![0, 0, 0] · slices_S50000x3x3_S50000x1x3_0_0_0) : (⟨S50000x3x3, .f32⟩ : BufTy).Contents (Elt F) → (⟨S50000x1x3, .f32⟩ : BufTy).Contents (Elt F)),
    StableHlo.reshape main_v104 main_v105 (rfl : (.f32 : EltTy) = .f32) shapeCasts_S50000x1x3_S50000x3,
    StableHlo.unary main_v105 main_v106 (broadcastInDim S1x50000x3 ![1, 2] bcast_S50000x3_S1x50000x3_1_2 : (⟨S50000x3, .f32⟩ : BufTy).Contents (Elt F) → (⟨S1x50000x3, .f32⟩ : BufTy).Contents (Elt F)),
    StableHlo.unary main_arg3 main_v107 ((extractStridedSlice S50000x1x3 ![0, 1, 0] · slices_S50000x3x3_S50000x1x3_0_1_0) : (⟨S50000x3x3, .f32⟩ : BufTy).Contents (Elt F) → (⟨S50000x1x3, .f32⟩ : BufTy).Contents (Elt F)),
    StableHlo.reshape main_v107 main_v108 (rfl : (.f32 : EltTy) = .f32) shapeCasts_S50000x1x3_S50000x3,
    StableHlo.unary main_v108 main_v109 (broadcastInDim S1x50000x3 ![1, 2] bcast_S50000x3_S1x50000x3_1_2 : (⟨S50000x3, .f32⟩ : BufTy).Contents (Elt F) → (⟨S1x50000x3, .f32⟩ : BufTy).Contents (Elt F)),
    StableHlo.unary main_arg3 main_v110 ((extractStridedSlice S50000x1x3 ![0, 2, 0] · slices_S50000x3x3_S50000x1x3_0_2_0) : (⟨S50000x3x3, .f32⟩ : BufTy).Contents (Elt F) → (⟨S50000x1x3, .f32⟩ : BufTy).Contents (Elt F)),
    StableHlo.reshape main_v110 main_v111 (rfl : (.f32 : EltTy) = .f32) shapeCasts_S50000x1x3_S50000x3,
    StableHlo.unary main_v111 main_v112 (broadcastInDim S1x50000x3 ![1, 2] bcast_S50000x3_S1x50000x3_1_2 : (⟨S50000x3, .f32⟩ : BufTy).Contents (Elt F) → (⟨S1x50000x3, .f32⟩ : BufTy).Contents (Elt F)),
    StableHlo.binary main_v112 main_v109 main_v113 (subf : (⟨S1x50000x3, .f32⟩ : BufTy).Contents (Elt F) → (⟨S1x50000x3, .f32⟩ : BufTy).Contents (Elt F) → (⟨S1x50000x3, .f32⟩ : BufTy).Contents (Elt F)),
    StableHlo.binary main_v106 main_v109 main_v114 (subf : (⟨S1x50000x3, .f32⟩ : BufTy).Contents (Elt F) → (⟨S1x50000x3, .f32⟩ : BufTy).Contents (Elt F) → (⟨S1x50000x3, .f32⟩ : BufTy).Contents (Elt F)) ]

/-- Statements of the reference, stretch 6. -/
abbrev stretch6 : List (HloOp τ sig (Elt F)) :=
  [ StableHlo.nullary main_cst_10 (constant S_ .f32 0x322BCC77#32),
    StableHlo.unary main_cst_10 main_v116 (broadcastInDim S1x50000x1 ![] bcast_S_S1x50000x1 : (⟨S_, .f32⟩ : BufTy).Contents (Elt F) → (⟨S1x50000x1, .f32⟩ : BufTy).Contents (Elt F)),
    StableHlo.binary main_v115 main_v116 main_v117 (addf : (⟨S1x50000x1, .f32⟩ : BufTy).Contents (Elt F) → (⟨S1x50000x1, .f32⟩ : BufTy).Contents (Elt F) → (⟨S1x50000x1, .f32⟩ : BufTy).Contents (Elt F)),
    StableHlo.unary main_v117 main_v118 (broadcastInDim S1x50000x3 ![0, 1, 2] bcast_S1x50000x1_S1x50000x3_0_1_2 : (⟨S1x50000x1, .f32⟩ : BufTy).Contents (Elt F) → (⟨S1x50000x3, .f32⟩ : BufTy).Contents (Elt F)),
    StableHlo.binary main_v113 main_v118 main_v119 (Host.divf : (⟨S1x50000x3, .f32⟩ : BufTy).Contents (Elt F) → (⟨S1x50000x3, .f32⟩ : BufTy).Contents (Elt F) → (⟨S1x50000x3, .f32⟩ : BufTy).Contents (Elt F)),
    StableHlo.binary main_v119 main_v114 main_v120 (mulf : (⟨S1x50000x3, .f32⟩ : BufTy).Contents (Elt F) → (⟨S1x50000x3, .f32⟩ : BufTy).Contents (Elt F) → (⟨S1x50000x3, .f32⟩ : BufTy).Contents (Elt F)),
    StableHlo.nullary main_cst_11 (constant S_ .f32 0x00000000#32),
    StableHlo.binary main_v120 main_cst_11 main_v121 ((fun x v => Host.reduceAdd x v reducesTo_S1x50000x3_S1x50000_d2 h_S_) : (⟨S1x50000x3, .f32⟩ : BufTy).Contents (Elt F) → (⟨S_, .f32⟩ : BufTy).Contents (Elt F) → (⟨S1x50000, .f32⟩ : BufTy).Contents (Elt F)),
    StableHlo.unary main_v121 main_v122 (broadcastInDim S1x50000x1 ![0, 1] bcast_S1x50000_S1x50000x1_0_1 : (⟨S1x50000, .f32⟩ : BufTy).Contents (Elt F) → (⟨S1x50000x1, .f32⟩ : BufTy).Contents (Elt F)),
    StableHlo.unary main_v122 main_v123 (broadcastInDim S1x50000x3 ![0, 1, 2] bcast_S1x50000x1_S1x50000x3_0_1_2 : (⟨S1x50000x1, .f32⟩ : BufTy).Contents (Elt F) → (⟨S1x50000x3, .f32⟩ : BufTy).Contents (Elt F)),
    StableHlo.binary main_v119 main_v123 main_v124 (mulf : (⟨S1x50000x3, .f32⟩ : BufTy).Contents (Elt F) → (⟨S1x50000x3, .f32⟩ : BufTy).Contents (Elt F) → (⟨S1x50000x3, .f32⟩ : BufTy).Contents (Elt F)),
    StableHlo.binary main_v114 main_v124 main_v125 (subf : (⟨S1x50000x3, .f32⟩ : BufTy).Contents (Elt F) → (⟨S1x50000x3, .f32⟩ : BufTy).Contents (Elt F) → (⟨S1x50000x3, .f32⟩ : BufTy).Contents (Elt F)) ]

/-- Statements of the reference, stretch 7. -/
abbrev stretch7 : List (HloOp τ sig (Elt F)) :=
  [ StableHlo.nullary main_cst_12 (constant S_ .f32 0x322BCC77#32),
    StableHlo.unary main_cst_12 main_v127 (broadcastInDim S1x50000x1 ![] bcast_S_S1x50000x1 : (⟨S_, .f32⟩ : BufTy).Contents (Elt F) → (⟨S1x50000x1, .f32⟩ : BufTy).Contents (Elt F)),
    StableHlo.binary main_v126 main_v127 main_v128 (addf : (⟨S1x50000x1, .f32⟩ : BufTy).Contents (Elt F) → (⟨S1x50000x1, .f32⟩ : BufTy).Contents (Elt F) → (⟨S1x50000x1, .f32⟩ : BufTy).Contents (Elt F)),
    StableHlo.unary main_v128 main_v129 (broadcastInDim S1x50000x3 ![0, 1, 2] bcast_S1x50000x1_S1x50000x3_0_1_2 : (⟨S1x50000x1, .f32⟩ : BufTy).Contents (Elt F) → (⟨S1x50000x3, .f32⟩ : BufTy).Contents (Elt F)),
    StableHlo.binary main_v125 main_v129 main_v130 (Host.divf : (⟨S1x50000x3, .f32⟩ : BufTy).Contents (Elt F) → (⟨S1x50000x3, .f32⟩ : BufTy).Contents (Elt F) → (⟨S1x50000x3, .f32⟩ : BufTy).Contents (Elt F)) ]

/-- Statements of the reference, stretch 8. -/
abbrev stretch8 : List (HloOp τ sig (Elt F)) :=
  [ StableHlo.unary main_v119 main_v132 (broadcastInDim S1x50000x3x1 ![0, 1, 2] bcast_S1x50000x3_S1x50000x3x1_0_1_2 : (⟨S1x50000x3, .f32⟩ : BufTy).Contents (Elt F) → (⟨S1x50000x3x1, .f32⟩ : BufTy).Contents (Elt F)),
    StableHlo.unary main_v130 main_v133 (broadcastInDim S1x50000x3x1 ![0, 1, 2] bcast_S1x50000x3_S1x50000x3x1_0_1_2 : (⟨S1x50000x3, .f32⟩ : BufTy).Contents (Elt F) → (⟨S1x50000x3x1, .f32⟩ : BufTy).Contents (Elt F)),
    StableHlo.unary main_v131 main_v134 (broadcastInDim S1x50000x3x1 ![0, 1, 2] bcast_S1x50000x3_S1x50000x3x1_0_1_2 : (⟨S1x50000x3, .f32⟩ : BufTy).Contents (Elt F) → (⟨S1x50000x3x1, .f32⟩ : BufTy).Contents (Elt F)),
    StableHlo.nary ![main_v132, main_v133, main_v134] main_v135 (fun u => (concatenate S1x50000x3x3 3 [⟨S1x50000x3x1, (u 0 : (⟨S1x50000x3x1, .f32⟩ : BufTy).Contents (Elt F))⟩, ⟨S1x50000x3x1, (u 1 : (⟨S1x50000x3x1, .f32⟩ : BufTy).Contents (Elt F))⟩, ⟨S1x50000x3x1, (u 2 : (⟨S1x50000x3x1, .f32⟩ : BufTy).Contents (Elt F))⟩] concatenates_S1x50000x3x1_S1x50000x3x1_S1x50000x3x1_S1x50000x3x3_d3 : (⟨S1x50000x3x3, .f32⟩ : BufTy).Contents (Elt F))),
    StableHlo.reshape main_v135 main_v136 (rfl : (.f32 : EltTy) = .f32) shapeCasts_S1x50000x3x3_S50000x3x3,
    StableHlo.unary main_v88 main_v137 ((transpose S5x50000x3 [1, 0, 2] · transposes_S50000x5x3_S5x50000x3_1_0_2) : (⟨S50000x5x3, .f32⟩ : BufTy).Contents (Elt F) → (⟨S5x50000x3, .f32⟩ : BufTy).Contents (Elt F)),
    StableHlo.binary main_v137 main_v136 main_v138 ((fun l r => Host.dotGeneral dot_S5x50000x3_S50000x3x3_S50000x5x3_2_2_0_1_1_0 none l r) : (⟨S5x50000x3, .f32⟩ : BufTy).Contents (Elt F) → (⟨S50000x3x3, .f32⟩ : BufTy).Contents (Elt F) → (⟨S50000x5x3, .f32⟩ : BufTy).Contents (Elt F)),
    StableHlo.unary main_v138 main_v139 ((transpose S5x50000x3 [1, 0, 2] · transposes_S50000x5x3_S5x50000x3_1_0_2) : (⟨S50000x5x3, .f32⟩ : BufTy).Contents (Elt F) → (⟨S5x50000x3, .f32⟩ : BufTy).Contents (Elt F)),
    StableHlo.reshape main_v109 main_v140 (rfl : (.f32 : EltTy) = .f32) shapeCasts_S1x50000x3_S50000x3,
    StableHlo.unary main_v140 main_v141 (broadcastInDim S1x50000x3 ![1, 2] bcast_S50000x3_S1x50000x3_1_2 : (⟨S50000x3, .f32⟩ : BufTy).Contents (Elt F) → (⟨S1x50000x3, .f32⟩ : BufTy).Contents (Elt F)),
    StableHlo.unary main_v141 main_v142 (broadcastInDim S5x50000x3 ![0, 1, 2] bcast_S1x50000x3_S5x50000x3_0_1_2 : (⟨S1x50000x3, .f32⟩ : BufTy).Contents (Elt F) → (⟨S5x50000x3, .f32⟩ : BufTy).Contents (Elt F)),
    StableHlo.binary main_v139 main_v142 main_v143 (addf : (⟨S5x50000x3, .f32⟩ : BufTy).Contents (Elt F) → (⟨S5x50000x3, .f32⟩ : BufTy).Contents (Elt F) → (⟨S5x50000x3, .f32⟩ : BufTy).Contents (Elt F)),
    StableHlo.unary main_v143 main_v144 ((transpose S50000x5x3 [1, 0, 2] · transposes_S5x50000x3_S50000x5x3_1_0_2) : (⟨S5x50000x3, .f32⟩ : BufTy).Contents (Elt F) → (⟨S50000x5x3, .f32⟩ : BufTy).Contents (Elt F)),
    StableHlo.reshape main_v144 main_v145 (rfl : (.f32 : EltTy) = .f32) shapeCasts_S50000x5x3_S250000x3,
    StableHlo.reshape main_v96 main_v146 (rfl : (.f32 : EltTy) = .f32) shapeCasts_S50000x5x12_S250000x12,
    StableHlo.reshape main_v103 main_v147 (rfl : (.f32 : EltTy) = .f32) shapeCasts_S50000x5x1_S250000,
    StableHlo.reshape main_v80 main_v148 (rfl : (.f32 : EltTy) = .f32) shapeCasts_S50000x5x1_S250000,
    StableHlo.unary main_v147 main_v149 (broadcastInDim S250000x1 ![0] bcast_S250000_S250000x1_0 : (⟨S250000, .f32⟩ : BufTy).Contents (Elt F) → (⟨S250000x1, .f32⟩ : BufTy).Contents (Elt F)),
    StableHlo.unary main_v148 main_v150 (broadcastInDim S250000x1 ![0] bcast_S250000_S250000x1_0 : (⟨S250000, .f32⟩ : BufTy).Contents (Elt F) → (⟨S250000x1, .f32⟩ : BufTy).Contents (Elt F)),
    StableHlo.nary ![main_v145, main_v146, main_v149, main_v150] main_v151 (fun u => (concatenate S250000x17 1 [⟨S250000x3, (u 0 : (⟨S250000x3, .f32⟩ : BufTy).Contents (Elt F))⟩, ⟨S250000x12, (u 1 : (⟨S250000x12, .f32⟩ : BufTy).Contents (Elt F))⟩, ⟨S250000x1, (u 2 : (⟨S250000x1, .f32⟩ : BufTy).Contents (Elt F))⟩, ⟨S250000x1, (u 3 : (⟨S250000x1, .f32⟩ : BufTy).Contents (Elt F))⟩] concatenates_S250000x3_S250000x12_S250000x1_S250000x1_S250000x17_d1 : (⟨S250000x17, .f32⟩ : BufTy).Contents (Elt F))),
    StableHlo.binary main_v75 main_v151 main_v152 ((fun a b => concatenate S500000x17 0 [⟨S250000x17, a⟩, ⟨S250000x17, b⟩] concatenates_S250000x17_S250000x17_S500000x17_d0) : (⟨S250000x17, .f32⟩ : BufTy).Contents (Elt F) → (⟨S250000x17, .f32⟩ : BufTy).Contents (Elt F) → (⟨S500000x17, .f32⟩ : BufTy).Contents (Elt F)) ]

/-- The first chain. -/
abbrev chain1 : List (HloOp τ sig (Elt F)) :=
  stretch1 ++ normOps (.of main_v37) main_call0 ++ stretch2 ++ normOps (.of main_v49) main_call1 ++ stretch3 ++ crossOps (.of main_v43) (.of main_v54) main_call2 ++ stretch4

/-- The second chain, and the two joined. -/
abbrev chain2 : List (HloOp τ sig (Elt F)) :=
  stretch5 ++ normOps (.of main_v113) main_call3 ++ stretch6 ++ normOps (.of main_v125) main_call4 ++ stretch7 ++ crossOps (.of main_v119) (.of main_v130) main_call5 ++ stretch8

set_option maxRecDepth 1000000 in
set_option maxHeartbeats 0 in
/-- The reference is that line. -/
theorem main_eq (d : Dev nD) : main (F := F) d = StableHlo.seq (chain1 ++ chain2) := rfl

end Cert.ReferenceIdeal.Line

end
-- ==== Proof.RefTerm.lean ====
/-
  The reference's result as a term over its arguments: one chain's rows, written once and used for both chains.
-/
module

public import proofs.«01_k».proof.Proof.RefOps

@[expose] public section

noncomputable section

namespace Cert.ReferenceIdeal.Line

open Cert.ReferenceIdeal Cert.ReferenceIdeal.Facts₀ Cert.ReferenceIdeal.Facts
open Idealize.ShloMosaic Idealize.SL.Sem

variable {F : FTy → Type} [FloatOps F]

/-- The residues' type weights, over four axes. -/
def spread (s : FVec F S50000x20 .f32) : FVec F S50000x20x1x1 .f32 :=
  broadcastInDim S50000x20x1x1 ![0, 1] bcast_S50000x20_S50000x20x1x1_0_1 s

/-- Every pseudo-atom's total weight. -/
def weight (s : FVec F S50000x20 .f32) (w : FVec F S1x20x5x1 .f32) : FVec F S50000x5x1 .f32 :=
  Host.reduceAdd (mulf (broadcastInDim S50000x20x5x1 ![0, 1, 2, 3] bcast_S50000x20x1x1_S50000x20x5x1_0_1_2_3 (spread s))
    (broadcastInDim S50000x20x5x1 ![0, 1, 2, 3] bcast_S1x20x5x1_S50000x20x5x1_0_1_2_3 w))
    (constant S_ .f32 0x00000000#32) reducesTo_S50000x20x5x1_S50000x5x1_d1 h_S_

/-- Every pseudo-atom's mean coordinates. -/
def local3 (s : FVec F S50000x20 .f32) (c : FVec F S1x20x5x3 .f32) (w : FVec F S1x20x5x1 .f32) : FVec F S50000x5x3 .f32 :=
  Host.divf (Host.reduceAdd (mulf (mulf (broadcastInDim S50000x20x5x3 ![0, 1, 2, 3] bcast_S50000x20x1x1_S50000x20x5x3_0_1_2_3 (spread s))
    (broadcastInDim S50000x20x5x3 ![0, 1, 2, 3] bcast_S1x20x5x3_S50000x20x5x3_0_1_2_3 c))
    (broadcastInDim S50000x20x5x3 ![0, 1, 2, 3] bcast_S1x20x5x1_S50000x20x5x3_0_1_2_3 w))
    (constant S_ .f32 0x00000000#32) reducesTo_S50000x20x5x3_S50000x5x3_d1 h_S_)
    (broadcastInDim S50000x5x3 ![0, 1, 2] bcast_S50000x5x1_S50000x5x3_0_1_2 (weight s w))

/-- Every pseudo-atom's mean types. -/
def types12 (s : FVec F S50000x20 .f32) (t : FVec F S1x20x5x12 .f32) (w : FVec F S1x20x5x1 .f32) : FVec F S50000x5x12 .f32 :=
  Host.divf (Host.reduceAdd (mulf (mulf (broadcastInDim S50000x20x5x12 ![0, 1, 2, 3] bcast_S50000x20x1x1_S50000x20x5x12_0_1_2_3 (spread s))
    (broadcastInDim S50000x20x5x12 ![0, 1, 2, 3] bcast_S1x20x5x12_S50000x20x5x12_0_1_2_3 t))
    (broadcastInDim S50000x20x5x12 ![0, 1, 2, 3] bcast_S1x20x5x1_S50000x20x5x12_0_1_2_3 w))
    (constant S_ .f32 0x00000000#32) reducesTo_S50000x20x5x12_S50000x5x12_d1 h_S_)
    (broadcastInDim S50000x5x12 ![0, 1, 2] bcast_S50000x5x1_S50000x5x12_0_1_2 (weight s w))

/-- Every pseudo-atom's mean radius. -/
def radius (s : FVec F S50000x20 .f32) (r w : FVec F S1x20x5x1 .f32) : FVec F S50000x5x1 .f32 :=
  Host.divf (Host.reduceAdd (mulf (mulf (broadcastInDim S50000x20x5x1 ![0, 1, 2, 3] bcast_S50000x20x1x1_S50000x20x5x1_0_1_2_3 (spread s))
    (broadcastInDim S50000x20x5x1 ![0, 1, 2, 3] bcast_S1x20x5x1_S50000x20x5x1_0_1_2_3 r))
    (broadcastInDim S50000x20x5x1 ![0, 1, 2, 3] bcast_S1x20x5x1_S50000x20x5x1_0_1_2_3 w))
    (constant S_ .f32 0x00000000#32) reducesTo_S50000x20x5x1_S50000x5x1_d1 h_S_) (weight s w)

/-- Backbone atom `k` of every residue. -/
def point (x : FVec F S50000x3x3 .f32) (k : Nat) (h : S50000x3x3.Slices ![0, k, 0] S50000x1x3) : FVec F S1x50000x3 .f32 :=
  broadcastInDim S1x50000x3 ![1, 2] bcast_S50000x3_S1x50000x3_1_2
    (shapeCast S50000x3 (extractStridedSlice S50000x1x3 ![0, k, 0] x h) shapeCasts_S50000x1x3_S50000x3)

/-- Every residue's middle atom. -/
def center (x : FVec F S50000x3x3 .f32) : FVec F S1x50000x3 .f32 := point x 1 slices_S50000x3x3_S50000x1x3_0_1_0

/-- The sum of every vector's coordinates, as a column. -/
def added (v : FVec F S1x50000x3 .f32) : FVec F S1x50000x1 .f32 :=
  broadcastInDim S1x50000x1 ![0, 1] bcast_S1x50000_S1x50000x1_0_1
    (Host.reduceAdd v (constant S_ .f32 0x00000000#32) reducesTo_S1x50000x3_S1x50000_d2 h_S_)

/-- Every vector's length, as a column. -/
def size (v : FVec F S1x50000x3 .f32) : FVec F S1x50000x1 .f32 := Host.sqrt (added (mulf v v))

/-- Every vector over the small constant plus what is given. -/
def over (v : FVec F S1x50000x3 .f32) (n : FVec F S1x50000x1 .f32) : FVec F S1x50000x3 .f32 :=
  Host.divf v (broadcastInDim S1x50000x3 ![0, 1, 2] bcast_S1x50000x1_S1x50000x3_0_1_2
    (addf n (broadcastInDim S1x50000x1 ![] bcast_S_S1x50000x1 (constant S_ .f32 0x322BCC77#32))))

/-- Every vector over its length plus the small constant. -/
def direction (v : FVec F S1x50000x3 .f32) : FVec F S1x50000x3 .f32 := over v (size v)

/-- The part of `a` across `e`. -/
def across (e a : FVec F S1x50000x3 .f32) : FVec F S1x50000x3 .f32 :=
  subf a (mulf e (broadcastInDim S1x50000x3 ![0, 1, 2] bcast_S1x50000x1_S1x50000x3_0_1_2 (added (mulf e a))))

/-- Every residue's third atom from its middle one. -/
def reach (x : FVec F S50000x3x3 .f32) : FVec F S1x50000x3 .f32 :=
  subf (point x 2 slices_S50000x3x3_S50000x1x3_0_2_0) (center x)

/-- Every residue's first axis. -/
def first (x : FVec F S50000x3x3 .f32) : FVec F S1x50000x3 .f32 := direction (reach x)

/-- Every residue's first atom from its middle one. -/
def lever (x : FVec F S50000x3x3 .f32) : FVec F S1x50000x3 .f32 :=
  subf (point x 0 slices_S50000x3x3_S50000x1x3_0_0_0) (center x)

/-- Every residue's second axis. -/
def second (x : FVec F S50000x3x3 .f32) : FVec F S1x50000x3 .f32 := direction (across (first x) (lever x))

/-- Coordinate `a` of every vector. -/
def part (v : FVec F S1x50000x3 .f32) (a : Nat) (h : S1x50000x3.Slices ![0, 0, a] S1x50000x1) : FVec F S1x50000 .f32 :=
  shapeCast S1x50000 (extractStridedSlice S1x50000x1 ![0, 0, a] v h) shapeCasts_S1x50000x1_S1x50000

/-- A difference of two products of coordinates. -/
def minor (u v : FVec F S1x50000x3 .f32) (a b : Nat) (ha : S1x50000x3.Slices ![0, 0, a] S1x50000x1) (hb : S1x50000x3.Slices ![0, 0, b] S1x50000x1) :
    FVec F S1x50000 .f32 :=
  subf (mulf (part u a ha) (part v b hb)) (mulf (part u b hb) (part v a ha))

/-- The vectors' cross products. -/
def product (u v : FVec F S1x50000x3 .f32) : FVec F S1x50000x3 .f32 :=
  transpose S1x50000x3 [1, 2, 0]
    (concatenate S3x1x50000 0
      [⟨S1x1x50000, broadcastInDim S1x1x50000 ![1, 2] bcast_S1x50000_S1x1x50000_1_2 (minor u v 1 2 slices_S1x50000x3_S1x50000x1_0_0_1 slices_S1x50000x3_S1x50000x1_0_0_2)⟩,
       ⟨S1x1x50000, broadcastInDim S1x1x50000 ![1, 2] bcast_S1x50000_S1x1x50000_1_2 (minor u v 2 0 slices_S1x50000x3_S1x50000x1_0_0_2 slices_S1x50000x3_S1x50000x1_0_0_0)⟩,
       ⟨S1x1x50000, broadcastInDim S1x1x50000 ![1, 2] bcast_S1x50000_S1x1x50000_1_2 (minor u v 0 1 slices_S1x50000x3_S1x50000x1_0_0_0 slices_S1x50000x3_S1x50000x1_0_0_1)⟩]
      concatenates_S1x1x50000_S1x1x50000_S1x1x50000_S3x1x50000_d0) transposes_S3x1x50000_S1x50000x3_1_2_0

/-- Three vectors as the columns of every residue's rotation. -/
def rotation (e1 e2 e3 : FVec F S1x50000x3 .f32) : FVec F S50000x3x3 .f32 :=
  shapeCast S50000x3x3
    (concatenate S1x50000x3x3 3
      [⟨S1x50000x3x1, broadcastInDim S1x50000x3x1 ![0, 1, 2] bcast_S1x50000x3_S1x50000x3x1_0_1_2 e1⟩,
       ⟨S1x50000x3x1, broadcastInDim S1x50000x3x1 ![0, 1, 2] bcast_S1x50000x3_S1x50000x3x1_0_1_2 e2⟩,
       ⟨S1x50000x3x1, broadcastInDim S1x50000x3x1 ![0, 1, 2] bcast_S1x50000x3_S1x50000x3x1_0_1_2 e3⟩]
      concatenates_S1x50000x3x1_S1x50000x3x1_S1x50000x3x1_S1x50000x3x3_d3) shapeCasts_S1x50000x3x3_S50000x3x3

/-- Every pseudo-atom's coordinates, rotated. -/
def turned (m : FVec F S50000x5x3 .f32) (R : FVec F S50000x3x3 .f32) : FVec F S50000x5x3 .f32 :=
  Host.dotGeneral dot_S5x50000x3_S50000x3x3_S50000x5x3_2_2_0_1_1_0 none
    (transpose S5x50000x3 [1, 0, 2] m transposes_S50000x5x3_S5x50000x3_1_0_2) R

/-- Every pseudo-atom's position. -/
def placed (m : FVec F S50000x5x3 .f32) (R : FVec F S50000x3x3 .f32) (o : FVec F S1x50000x3 .f32) : FVec F S50000x5x3 .f32 :=
  transpose S50000x5x3 [1, 0, 2]
    (addf (transpose S5x50000x3 [1, 0, 2] (turned m R) transposes_S50000x5x3_S5x50000x3_1_0_2)
      (broadcastInDim S5x50000x3 ![0, 1, 2] bcast_S1x50000x3_S5x50000x3_0_1_2
        (broadcastInDim S1x50000x3 ![1, 2] bcast_S50000x3_S1x50000x3_1_2
          (shapeCast S50000x3 o shapeCasts_S1x50000x3_S50000x3)))) transposes_S5x50000x3_S50000x5x3_1_0_2

/-- A column over residues and pseudo-atoms, as one column. -/
def stacked (v : FVec F S50000x5x1 .f32) : FVec F S250000x1 .f32 :=
  broadcastInDim S250000x1 ![0] bcast_S250000_S250000x1_0 (shapeCast S250000 v shapeCasts_S50000x5x1_S250000)

/-- A chain's rows from its means, its axes and its origins. -/
def gathered (m : FVec F S50000x5x3 .f32) (t : FVec F S50000x5x12 .f32) (r w : FVec F S50000x5x1 .f32)
    (e1 e2 e3 o : FVec F S1x50000x3 .f32) : FVec F S250000x17 .f32 :=
  concatenate S250000x17 1
    [⟨S250000x3, shapeCast S250000x3 (placed m (rotation e1 e2 e3) o) shapeCasts_S50000x5x3_S250000x3⟩,
     ⟨S250000x12, shapeCast S250000x12 t shapeCasts_S50000x5x12_S250000x12⟩,
     ⟨S250000x1, stacked r⟩, ⟨S250000x1, stacked w⟩]
    concatenates_S250000x3_S250000x12_S250000x1_S250000x1_S250000x17_d1

/-- One chain's rows. -/
def chain (s : FVec F S50000x20 .f32) (x : FVec F S50000x3x3 .f32) (c : FVec F S1x20x5x3 .f32) (t : FVec F S1x20x5x12 .f32)
    (w r : FVec F S1x20x5x1 .f32) : FVec F S250000x17 .f32 :=
  gathered (local3 s c w) (types12 s t w) (radius s r w) (weight s w) (first x) (second x) (product (first x) (second x)) (center x)

end Cert.ReferenceIdeal.Line

end
-- ==== Proof.RefRead.lean ====
/-
  What the reference's line leaves in its result buffer, stretch by stretch.
-/
module

public import proofs.«01_k».proof.Proof.RefTerm

@[expose] public section

noncomputable section

namespace Cert.ReferenceIdeal.Line

open Cert.ReferenceIdeal Cert.ReferenceIdeal.Facts₀ Cert.ReferenceIdeal.Facts
open Idealize.ShloMosaic Idealize.SL.Sem

variable {F : FTy → Type} [FloatOps F] (V : Valuation τ sig (Elt F))

/-- A line after a line. -/
theorem after_join (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- The total weights. -/
theorem weight_read_1 : StableHlo.after (stretch1) V (Proc.devRef .tc main_v4) = weight (V (Proc.devRef .tc main_arg0)) (V (Proc.devRef .tc main_arg6)) := by
  after_reads_simp
  try rfl

/-- The mean coordinates. -/
theorem local3_read_1 : StableHlo.after (stretch1) V (Proc.devRef .tc main_v12) = local3 (V (Proc.devRef .tc main_arg0)) (V (Proc.devRef .tc main_arg4)) (V (Proc.devRef .tc main_arg6)) := by
  after_reads_simp
  try rfl

/-- The mean types. -/
theorem types12_read_1 : StableHlo.after (stretch1) V (Proc.devRef .tc main_v20) = types12 (V (Proc.devRef .tc main_arg0)) (V (Proc.devRef .tc main_arg5)) (V (Proc.devRef .tc main_arg6)) := by
  after_reads_simp
  try rfl

/-- The mean radii. -/
theorem radius_read_1 : StableHlo.after (stretch1) V (Proc.devRef .tc main_v27) = radius (V (Proc.devRef .tc main_arg0)) (V (Proc.devRef .tc main_arg7)) (V (Proc.devRef .tc main_arg6)) := by
  after_reads_simp
  try rfl

/-- The middle atoms. -/
theorem center_read_1 : StableHlo.after (stretch1) V (Proc.devRef .tc main_v33) = center (V (Proc.devRef .tc main_arg1)) := by
  after_reads_simp
  try rfl

/-- The third atoms from the middle ones. -/
theorem reach_read_1 : StableHlo.after (stretch1) V (Proc.devRef .tc main_v37) = reach (V (Proc.devRef .tc main_arg1)) := by
  after_reads_simp
  try rfl

/-- The first atoms from the middle ones. -/
theorem lever_read_1 : StableHlo.after (stretch1) V (Proc.devRef .tc main_v38) = lever (V (Proc.devRef .tc main_arg1)) := by
  after_reads_simp
  try rfl

/-- The first lengths. -/
theorem size_read_1 : StableHlo.after (normOps (.of main_v37) main_call0) V (Proc.devRef .tc main_v39) = size (V (Proc.devRef .tc main_v37)) := by
  after_reads_simp
  try rfl

/-- The first axes. -/
theorem over_read_1 : StableHlo.after (stretch2) V (Proc.devRef .tc main_v43) = over (V (Proc.devRef .tc main_v37)) (V (Proc.devRef .tc main_v39)) := by
  after_reads_simp
  try rfl

/-- The parts across them. -/
theorem across_read_1 : StableHlo.after (stretch2) V (Proc.devRef .tc main_v49) = across (over (V (Proc.devRef .tc main_v37)) (V (Proc.devRef .tc main_v39))) (V (Proc.devRef .tc main_v38)) := by
  after_reads_simp
  try rfl

/-- The second lengths. -/
theorem size2_read_1 : StableHlo.after (normOps (.of main_v49) main_call1) V (Proc.devRef .tc main_v50) = size (V (Proc.devRef .tc main_v49)) := by
  after_reads_simp
  try rfl

/-- The second axes. -/
theorem over2_read_1 : StableHlo.after (stretch3) V (Proc.devRef .tc main_v54) = over (V (Proc.devRef .tc main_v49)) (V (Proc.devRef .tc main_v50)) := by
  after_reads_simp
  try rfl

/-- The third axes. -/
theorem product_read_1 : StableHlo.after (crossOps (.of main_v43) (.of main_v54) main_call2) V (Proc.devRef .tc main_v55) = product (V (Proc.devRef .tc main_v43)) (V (Proc.devRef .tc main_v54)) := by
  after_reads_simp
  try rfl

/-- The chain's rows. -/
theorem rows_read_1 : StableHlo.after (stretch4) V (Proc.devRef .tc main_v75) = gathered (V (Proc.devRef .tc main_v12)) (V (Proc.devRef .tc main_v20)) (V (Proc.devRef .tc main_v27)) (V (Proc.devRef .tc main_v4)) (V (Proc.devRef .tc main_v43)) (V (Proc.devRef .tc main_v54)) (V (Proc.devRef .tc main_v55)) (V (Proc.devRef .tc main_v33)) := by
  after_reads_simp
  try rfl

/-- A buffer these statements leave alone. -/
theorem kept_norm1_37_1 : StableHlo.after (normOps (.of main_v37) main_call0) V (Proc.devRef .tc main_v37) = (V (Proc.devRef .tc main_v37)) := by
  after_reads_simp

/-- A buffer these statements leave alone. -/
theorem kept_norm1_38_1 : StableHlo.after (normOps (.of main_v37) main_call0) V (Proc.devRef .tc main_v38) = (V (Proc.devRef .tc main_v38)) := by
  after_reads_simp

/-- A buffer these statements leave alone. -/
theorem kept_norm2_49_1 : StableHlo.after (normOps (.of main_v49) main_call1) V (Proc.devRef .tc main_v49) = (V (Proc.devRef .tc main_v49)) := by
  after_reads_simp

/-- A buffer these statements leave alone. -/
theorem kept_cross_43_1 : StableHlo.after (crossOps (.of main_v43) (.of main_v54) main_call2) V (Proc.devRef .tc main_v43) = (V (Proc.devRef .tc main_v43)) := by
  after_reads_simp

/-- A buffer these statements leave alone. -/
theorem kept_cross_54_1 : StableHlo.after (crossOps (.of main_v43) (.of main_v54) main_call2) V (Proc.devRef .tc main_v54) = (V (Proc.devRef .tc main_v54)) := by
  after_reads_simp

/-- A buffer these statements leave alone. -/
theorem kept_tail2_43_1 : StableHlo.after (normOps (.of main_v49) main_call1 ++ stretch3) V (Proc.devRef .tc main_v43) = (V (Proc.devRef .tc main_v43)) := by
  after_reads_simp

/-- A buffer these statements leave alone. -/
theorem kept_middle_4_1 : StableHlo.after (normOps (.of main_v37) main_call0 ++ stretch2 ++ normOps (.of main_v49) main_call1 ++ stretch3 ++ crossOps (.of main_v43) (.of main_v54) main_call2) V (Proc.devRef .tc main_v4) = (V (Proc.devRef .tc main_v4)) := by
  after_reads_simp

/-- A buffer these statements leave alone. -/
theorem kept_middle_12_1 : StableHlo.after (normOps (.of main_v37) main_call0 ++ stretch2 ++ normOps (.of main_v49) main_call1 ++ stretch3 ++ crossOps (.of main_v43) (.of main_v54) main_call2) V (Proc.devRef .tc main_v12) = (V (Proc.devRef .tc main_v12)) := by
  after_reads_simp

/-- A buffer these statements leave alone. -/
theorem kept_middle_20_1 : StableHlo.after (normOps (.of main_v37) main_call0 ++ stretch2 ++ normOps (.of main_v49) main_call1 ++ stretch3 ++ crossOps (.of main_v43) (.of main_v54) main_call2) V (Proc.devRef .tc main_v20) = (V (Proc.devRef .tc main_v20)) := by
  after_reads_simp

/-- A buffer these statements leave alone. -/
theorem kept_middle_27_1 : StableHlo.after (normOps (.of main_v37) main_call0 ++ stretch2 ++ normOps (.of main_v49) main_call1 ++ stretch3 ++ crossOps (.of main_v43) (.of main_v54) main_call2) V (Proc.devRef .tc main_v27) = (V (Proc.devRef .tc main_v27)) := by
  after_reads_simp

/-- A buffer these statements leave alone. -/
theorem kept_middle_33_1 : StableHlo.after (normOps (.of main_v37) main_call0 ++ stretch2 ++ normOps (.of main_v49) main_call1 ++ stretch3 ++ crossOps (.of main_v43) (.of main_v54) main_call2) V (Proc.devRef .tc main_v33) = (V (Proc.devRef .tc main_v33)) := by
  after_reads_simp

/-- The chain's line leaves its rows in its last buffer. -/
theorem chain_read_1 : StableHlo.after chain1 V (Proc.devRef .tc main_v75) = chain (V (Proc.devRef .tc main_arg0)) (V (Proc.devRef .tc main_arg1)) (V (Proc.devRef .tc main_arg4)) (V (Proc.devRef .tc main_arg5)) (V (Proc.devRef .tc main_arg6)) (V (Proc.devRef .tc main_arg7)) := by
  have hm (W : Valuation τ sig (Elt F)) : StableHlo.after (crossOps (.of main_v43) (.of main_v54) main_call2) (StableHlo.after (stretch3) (StableHlo.after (normOps (.of main_v49) main_call1) (StableHlo.after (stretch2) (StableHlo.after (normOps (.of main_v37) main_call0) W)))) = StableHlo.after (normOps (.of main_v37) main_call0 ++ stretch2 ++ normOps (.of main_v49) main_call1 ++ stretch3 ++ crossOps (.of main_v43) (.of main_v54) main_call2) W := by
    simp only [after_join]
  have ht (W : Valuation τ sig (Elt F)) : StableHlo.after (stretch3) (StableHlo.after (normOps (.of main_v49) main_call1) W) = StableHlo.after (normOps (.of main_v49) main_call1 ++ stretch3) W := by
    simp only [after_join]
  unfold chain1
  simp only [after_join]
  rw [rows_read_1]
  rw [product_read_1, kept_cross_43_1, kept_cross_54_1, hm, kept_middle_4_1, kept_middle_12_1, kept_middle_20_1, kept_middle_27_1, kept_middle_33_1, weight_read_1, local3_read_1, types12_read_1, radius_read_1, center_read_1,
    over2_read_1, size2_read_1, kept_norm2_49_1, across_read_1, kept_norm1_38_1, ht, kept_tail2_43_1, over_read_1, kept_norm1_37_1, size_read_1, reach_read_1, lever_read_1]
  rfl

/-- The total weights. -/
theorem weight_read_2 : StableHlo.after (stretch5) V (Proc.devRef .tc main_v80) = weight (V (Proc.devRef .tc main_arg2)) (V (Proc.devRef .tc main_arg6)) := by
  after_reads_simp
  try rfl

/-- The mean coordinates. -/
theorem local3_read_2 : StableHlo.after (stretch5) V (Proc.devRef .tc main_v88) = local3 (V (Proc.devRef .tc main_arg2)) (V (Proc.devRef .tc main_arg4)) (V (Proc.devRef .tc main_arg6)) := by
  after_reads_simp
  try rfl

/-- The mean types. -/
theorem types12_read_2 : StableHlo.after (stretch5) V (Proc.devRef .tc main_v96) = types12 (V (Proc.devRef .tc main_arg2)) (V (Proc.devRef .tc main_arg5)) (V (Proc.devRef .tc main_arg6)) := by
  after_reads_simp
  try rfl

/-- The mean radii. -/
theorem radius_read_2 : StableHlo.after (stretch5) V (Proc.devRef .tc main_v103) = radius (V (Proc.devRef .tc main_arg2)) (V (Proc.devRef .tc main_arg7)) (V (Proc.devRef .tc main_arg6)) := by
  after_reads_simp
  try rfl

/-- The middle atoms. -/
theorem center_read_2 : StableHlo.after (stretch5) V (Proc.devRef .tc main_v109) = center (V (Proc.devRef .tc main_arg3)) := by
  after_reads_simp
  try rfl

/-- The third atoms from the middle ones. -/
theorem reach_read_2 : StableHlo.after (stretch5) V (Proc.devRef .tc main_v113) = reach (V (Proc.devRef .tc main_arg3)) := by
  after_reads_simp
  try rfl

/-- The first atoms from the middle ones. -/
theorem lever_read_2 : StableHlo.after (stretch5) V (Proc.devRef .tc main_v114) = lever (V (Proc.devRef .tc main_arg3)) := by
  after_reads_simp
  try rfl

/-- The first lengths. -/
theorem size_read_2 : StableHlo.after (normOps (.of main_v113) main_call3) V (Proc.devRef .tc main_v115) = size (V (Proc.devRef .tc main_v113)) := by
  after_reads_simp
  try rfl

/-- The first axes. -/
theorem over_read_2 : StableHlo.after (stretch6) V (Proc.devRef .tc main_v119) = over (V (Proc.devRef .tc main_v113)) (V (Proc.devRef .tc main_v115)) := by
  after_reads_simp
  try rfl

/-- The parts across them. -/
theorem across_read_2 : StableHlo.after (stretch6) V (Proc.devRef .tc main_v125) = across (over (V (Proc.devRef .tc main_v113)) (V (Proc.devRef .tc main_v115))) (V (Proc.devRef .tc main_v114)) := by
  after_reads_simp
  try rfl

/-- The second lengths. -/
theorem size2_read_2 : StableHlo.after (normOps (.of main_v125) main_call4) V (Proc.devRef .tc main_v126) = size (V (Proc.devRef .tc main_v125)) := by
  after_reads_simp
  try rfl

/-- The second axes. -/
theorem over2_read_2 : StableHlo.after (stretch7) V (Proc.devRef .tc main_v130) = over (V (Proc.devRef .tc main_v125)) (V (Proc.devRef .tc main_v126)) := by
  after_reads_simp
  try rfl

/-- The third axes. -/
theorem product_read_2 : StableHlo.after (crossOps (.of main_v119) (.of main_v130) main_call5) V (Proc.devRef .tc main_v131) = product (V (Proc.devRef .tc main_v119)) (V (Proc.devRef .tc main_v130)) := by
  after_reads_simp
  try rfl

/-- The chain's rows. -/
theorem rows_read_2 : StableHlo.after (stretch8) V (Proc.devRef .tc main_v152) = concatenate S500000x17 0 [⟨S250000x17, ((V (Proc.devRef .tc main_v75)) : FVec F S250000x17 .f32)⟩, ⟨S250000x17, gathered (V (Proc.devRef .tc main_v88)) (V (Proc.devRef .tc main_v96)) (V (Proc.devRef .tc main_v103)) (V (Proc.devRef .tc main_v80)) (V (Proc.devRef .tc main_v119)) (V (Proc.devRef .tc main_v130)) (V (Proc.devRef .tc main_v131)) (V (Proc.devRef .tc main_v109))⟩] concatenates_S250000x17_S250000x17_S500000x17_d0 := by
  after_reads_simp
  try rfl

/-- A buffer these statements leave alone. -/
theorem kept_norm1_37_2 : StableHlo.after (normOps (.of main_v113) main_call3) V (Proc.devRef .tc main_v113) = (V (Proc.devRef .tc main_v113)) := by
  after_reads_simp

/-- A buffer these statements leave alone. -/
theorem kept_norm1_38_2 : StableHlo.after (normOps (.of main_v113) main_call3) V (Proc.devRef .tc main_v114) = (V (Proc.devRef .tc main_v114)) := by
  after_reads_simp

/-- A buffer these statements leave alone. -/
theorem kept_norm2_49_2 : StableHlo.after (normOps (.of main_v125) main_call4) V (Proc.devRef .tc main_v125) = (V (Proc.devRef .tc main_v125)) := by
  after_reads_simp

/-- A buffer these statements leave alone. -/
theorem kept_cross_43_2 : StableHlo.after (crossOps (.of main_v119) (.of main_v130) main_call5) V (Proc.devRef .tc main_v119) = (V (Proc.devRef .tc main_v119)) := by
  after_reads_simp

/-- A buffer these statements leave alone. -/
theorem kept_cross_54_2 : StableHlo.after (crossOps (.of main_v119) (.of main_v130) main_call5) V (Proc.devRef .tc main_v130) = (V (Proc.devRef .tc main_v130)) := by
  after_reads_simp

/-- A buffer these statements leave alone. -/
theorem kept_tail2_43_2 : StableHlo.after (normOps (.of main_v125) main_call4 ++ stretch7) V (Proc.devRef .tc main_v119) = (V (Proc.devRef .tc main_v119)) := by
  after_reads_simp

/-- A buffer these statements leave alone. -/
theorem kept_middle_4_2 : StableHlo.after (normOps (.of main_v113) main_call3 ++ stretch6 ++ normOps (.of main_v125) main_call4 ++ stretch7 ++ crossOps (.of main_v119) (.of main_v130) main_call5) V (Proc.devRef .tc main_v80) = (V (Proc.devRef .tc main_v80)) := by
  after_reads_simp

/-- A buffer these statements leave alone. -/
theorem kept_middle_12_2 : StableHlo.after (normOps (.of main_v113) main_call3 ++ stretch6 ++ normOps (.of main_v125) main_call4 ++ stretch7 ++ crossOps (.of main_v119) (.of main_v130) main_call5) V (Proc.devRef .tc main_v88) = (V (Proc.devRef .tc main_v88)) := by
  after_reads_simp

/-- A buffer these statements leave alone. -/
theorem kept_middle_20_2 : StableHlo.after (normOps (.of main_v113) main_call3 ++ stretch6 ++ normOps (.of main_v125) main_call4 ++ stretch7 ++ crossOps (.of main_v119) (.of main_v130) main_call5) V (Proc.devRef .tc main_v96) = (V (Proc.devRef .tc main_v96)) := by
  after_reads_simp

/-- A buffer these statements leave alone. -/
theorem kept_middle_27_2 : StableHlo.after (normOps (.of main_v113) main_call3 ++ stretch6 ++ normOps (.of main_v125) main_call4 ++ stretch7 ++ crossOps (.of main_v119) (.of main_v130) main_call5) V (Proc.devRef .tc main_v103) = (V (Proc.devRef .tc main_v103)) := by
  after_reads_simp

/-- A buffer these statements leave alone. -/
theorem kept_middle_33_2 : StableHlo.after (normOps (.of main_v113) main_call3 ++ stretch6 ++ normOps (.of main_v125) main_call4 ++ stretch7 ++ crossOps (.of main_v119) (.of main_v130) main_call5) V (Proc.devRef .tc main_v109) = (V (Proc.devRef .tc main_v109)) := by
  after_reads_simp

/-- The second chain leaves the first's rows alone. -/
theorem kept_rows : StableHlo.after (stretch5 ++ normOps (.of main_v113) main_call3 ++ stretch6 ++ normOps (.of main_v125) main_call4 ++ stretch7 ++ crossOps (.of main_v119) (.of main_v130) main_call5) V (Proc.devRef .tc main_v75) = (V (Proc.devRef .tc main_v75)) := by
  after_reads_simp

/-- The chain's line leaves its rows in its last buffer. -/
theorem chain_read_2 : StableHlo.after chain2 V (Proc.devRef .tc main_v152) = concatenate S500000x17 0 [⟨S250000x17, ((V (Proc.devRef .tc main_v75)) : FVec F S250000x17 .f32)⟩, ⟨S250000x17, chain (V (Proc.devRef .tc main_arg2)) (V (Proc.devRef .tc main_arg3)) (V (Proc.devRef .tc main_arg4)) (V (Proc.devRef .tc main_arg5)) (V (Proc.devRef .tc main_arg6)) (V (Proc.devRef .tc main_arg7))⟩] concatenates_S250000x17_S250000x17_S500000x17_d0 := by
  have hm (W : Valuation τ sig (Elt F)) : StableHlo.after (crossOps (.of main_v119) (.of main_v130) main_call5) (StableHlo.after (stretch7) (StableHlo.after (normOps (.of main_v125) main_call4) (StableHlo.after (stretch6) (StableHlo.after (normOps (.of main_v113) main_call3) W)))) = StableHlo.after (normOps (.of main_v113) main_call3 ++ stretch6 ++ normOps (.of main_v125) main_call4 ++ stretch7 ++ crossOps (.of main_v119) (.of main_v130) main_call5) W := by
    simp only [after_join]
  have ht (W : Valuation τ sig (Elt F)) : StableHlo.after (stretch7) (StableHlo.after (normOps (.of main_v125) main_call4) W) = StableHlo.after (normOps (.of main_v125) main_call4 ++ stretch7) W := by
    simp only [after_join]
  have ha (W : Valuation τ sig (Elt F)) : StableHlo.after (normOps (.of main_v113) main_call3 ++ stretch6 ++ normOps (.of main_v125) main_call4 ++ stretch7 ++ crossOps (.of main_v119) (.of main_v130) main_call5) (StableHlo.after (stretch5) W) = StableHlo.after (stretch5 ++ normOps (.of main_v113) main_call3 ++ stretch6 ++ normOps (.of main_v125) main_call4 ++ stretch7 ++ crossOps (.of main_v119) (.of main_v130) main_call5) W := by
    simp only [after_join]
  unfold chain2
  simp only [after_join]
  rw [rows_read_2]
  rw [product_read_2, kept_cross_43_2, kept_cross_54_2, hm, kept_middle_4_2, kept_middle_12_2, kept_middle_20_2, kept_middle_27_2, kept_middle_33_2, weight_read_2, local3_read_2, types12_read_2, radius_read_2, center_read_2,
    over2_read_2, size2_read_2, kept_norm2_49_2, across_read_2, kept_norm1_38_2, ht, kept_tail2_43_2, over_read_2, kept_norm1_37_2, size_read_2, reach_read_2, lever_read_2, ha, kept_rows]
  rfl

end Cert.ReferenceIdeal.Line

end
-- ==== Proof.RefRun.lean ====
/-
  The reference's run: it ends with its arguments unchanged, every counter at zero and the two chains' rows in its result.
-/
module

public import proofs.«01_k».proof.Proof.RefRead
public import Idealize.ShloMosaic.Lib.Quiescent

@[expose] public section

noncomputable section

namespace Cert.ReferenceIdeal.Line

open Cert.ReferenceIdeal Cert.ReferenceIdeal.Facts₀ Cert.ReferenceIdeal.Facts
open Idealize.ShloMosaic Idealize.SL.Sem

variable {F : FTy → Type} [FloatOps F]

/-- Both chains' rows, the first's above the second's. -/
def joined (s1 : FVec F S50000x20 .f32) (x1 : FVec F S50000x3x3 .f32) (s2 : FVec F S50000x20 .f32) (x2 : FVec F S50000x3x3 .f32)
    (c : FVec F S1x20x5x3 .f32) (t : FVec F S1x20x5x12 .f32) (w r : FVec F S1x20x5x1 .f32) : FVec F S500000x17 .f32 :=
  concatenate S500000x17 0 [⟨S250000x17, chain s1 x1 c t w r⟩, ⟨S250000x17, chain s2 x2 c t w r⟩] concatenates_S250000x17_S250000x17_S500000x17_d0

/-- Argument 0 is left alone. -/
theorem kept_arg0 (V : Valuation τ sig (Elt F)) : StableHlo.after (chain1 ++ chain2) V (Proc.devRef .tc main_arg0) = V (Proc.devRef .tc main_arg0) := by
  after_reads_simp

/-- Argument 1 is left alone. -/
theorem kept_arg1 (V : Valuation τ sig (Elt F)) : StableHlo.after (chain1 ++ chain2) V (Proc.devRef .tc main_arg1) = V (Proc.devRef .tc main_arg1) := by
  after_reads_simp

/-- Argument 2 is left alone. -/
theorem kept_arg2 (V : Valuation τ sig (Elt F)) : StableHlo.after (chain1 ++ chain2) V (Proc.devRef .tc main_arg2) = V (Proc.devRef .tc main_arg2) := by
  after_reads_simp

/-- Argument 2 is left alone by the first chain. -/
theorem kept_arg2_1 (V : Valuation τ sig (Elt F)) : StableHlo.after chain1 V (Proc.devRef .tc main_arg2) = V (Proc.devRef .tc main_arg2) := by
  after_reads_simp

/-- Argument 3 is left alone. -/
theorem kept_arg3 (V : Valuation τ sig (Elt F)) : StableHlo.after (chain1 ++ chain2) V (Proc.devRef .tc main_arg3) = V (Proc.devRef .tc main_arg3) := by
  after_reads_simp

/-- Argument 3 is left alone by the first chain. -/
theorem kept_arg3_1 (V : Valuation τ sig (Elt F)) : StableHlo.after chain1 V (Proc.devRef .tc main_arg3) = V (Proc.devRef .tc main_arg3) := by
  after_reads_simp

/-- Argument 4 is left alone. -/
theorem kept_arg4 (V : Valuation τ sig (Elt F)) : StableHlo.after (chain1 ++ chain2) V (Proc.devRef .tc main_arg4) = V (Proc.devRef .tc main_arg4) := by
  after_reads_simp

/-- Argument 4 is left alone by the first chain. -/
theorem kept_arg4_1 (V : Valuation τ sig (Elt F)) : StableHlo.after chain1 V (Proc.devRef .tc main_arg4) = V (Proc.devRef .tc main_arg4) := by
  after_reads_simp

/-- Argument 5 is left alone. -/
theorem kept_arg5 (V : Valuation τ sig (Elt F)) : StableHlo.after (chain1 ++ chain2) V (Proc.devRef .tc main_arg5) = V (Proc.devRef .tc main_arg5) := by
  after_reads_simp

/-- Argument 5 is left alone by the first chain. -/
theorem kept_arg5_1 (V : Valuation τ sig (Elt F)) : StableHlo.after chain1 V (Proc.devRef .tc main_arg5) = V (Proc.devRef .tc main_arg5) := by
  after_reads_simp

/-- Argument 6 is left alone. -/
theorem kept_arg6 (V : Valuation τ sig (Elt F)) : StableHlo.after (chain1 ++ chain2) V (Proc.devRef .tc main_arg6) = V (Proc.devRef .tc main_arg6) := by
  after_reads_simp

/-- Argument 6 is left alone by the first chain. -/
theorem kept_arg6_1 (V : Valuation τ sig (Elt F)) : StableHlo.after chain1 V (Proc.devRef .tc main_arg6) = V (Proc.devRef .tc main_arg6) := by
  after_reads_simp

/-- Argument 7 is left alone. -/
theorem kept_arg7 (V : Valuation τ sig (Elt F)) : StableHlo.after (chain1 ++ chain2) V (Proc.devRef .tc main_arg7) = V (Proc.devRef .tc main_arg7) := by
  after_reads_simp

/-- Argument 7 is left alone by the first chain. -/
theorem kept_arg7_1 (V : Valuation τ sig (Elt F)) : StableHlo.after chain1 V (Proc.devRef .tc main_arg7) = V (Proc.devRef .tc main_arg7) := by
  after_reads_simp

/-- The result buffer ends with both chains' rows. -/
theorem result_read (V : Valuation τ sig (Elt F)) : StableHlo.after (chain1 ++ chain2) V (Proc.devRef .tc main_v152)
    = joined (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7)) := by
  rw [after_join, chain_read_2, chain_read_1, kept_arg2_1, kept_arg3_1, kept_arg4_1, kept_arg5_1, kept_arg6_1, kept_arg7_1]
  rfl

variable (m : (ℓ : Loc nD τ sig) → Buf (Elt F) ℓ) (ρ : Dev nD → PrngReg)

set_option maxHeartbeats 0 in
set_option maxRecDepth 100000 in
/-- Every buffer ends as the line leaves it. -/
theorem run_line : θ_run (defs (F := F)) (onTc (τ := τ) (main (F := F))) ⟨m, fun _ => 0, ρ⟩ fun r =>
    ∀ (d : Dev nD) (b : Ref sig .tc),
      r.2.mem ((d.tc : Thread nD τ).loc b) = StableHlo.after (chain1 ++ chain2) (StableHlo.launchContents m d) (Proc.devRef .tc b) :=
  StableHlo.run_hlo (ops := chain1 ++ chain2) _ _ (fun d => main_eq d) (by decide) (by decide) (by simp) (by intro _ h; (repeat (cases h with | head => rfl | tail _ h => ?_)); cases h) m ρ

/-- The run, at the arguments and the result. -/
theorem run : θ_run (defs (F := F)) (onTc (τ := τ) (main (F := F))) ⟨m, fun _ => 0, ρ⟩ (fun r => (∀ c : Dev nD,
      r.2.mem ((c.tc : Thread nD τ).loc main_v152) = joined (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run _ _ _).2 (fun r h => ⟨fun c => ⟨(h c _).trans (result_read _), (h c _).trans (kept_arg0 _), (h c _).trans (kept_arg1 _),
    (h c _).trans (kept_arg2 _), (h c _).trans (kept_arg3 _), (h c _).trans (kept_arg4 _), (h c _).trans (kept_arg5 _),
    (h c _).trans (kept_arg6 _), (h c _).trans (kept_arg7 _)⟩, sem_eq_zero_of_no_sems (by decide) _⟩) (run_line m ρ)

end Cert.ReferenceIdeal.Line

end
-- ==== Proof.Spec.lean ====
/-
  What one pseudo-atom's seventeen channels are, over the extended reals: from its residue's twenty type weights, its
  residue's three backbone atoms, and the tables of coordinates, types, weights and radii at its number.
-/
module

public import Idealize.ShloMosaic.Lib.Pointwise

@[expose] public section

noncomputable section

namespace Cert.Spec

open Idealize.ShloMosaic

/-- The small constant added to a length. -/
def small : EReal := Ideal.ofBits .f32 0x322BCC77#32

/-- A vector's length. -/
def length (v : Fin 3 → EReal) : EReal := Ideal.sqrt (∑ a, v a * v a)

/-- A vector over its length plus the small constant. -/
def unit (v : Fin 3 → EReal) : Fin 3 → EReal := fun a => Ideal.div (v a) (length v + small)

/-- The part of `a` across `e`. -/
def across (e a : Fin 3 → EReal) : Fin 3 → EReal := fun b => a b - e b * ∑ k, e k * a k

/-- The cross product. -/
def cross (u v : Fin 3 → EReal) : Fin 3 → EReal :=
  ![u 1 * v 2 - u 2 * v 1, u 2 * v 0 - u 0 * v 2, u 0 * v 1 - u 1 * v 0]

/-- The first axis of a residue's frame, -/
def axis1 (x : Fin 3 → Fin 3 → EReal) : Fin 3 → EReal := unit fun a => x 2 a - x 1 a

/-- the second, -/
def axis2 (x : Fin 3 → Fin 3 → EReal) : Fin 3 → EReal := unit (across (axis1 x) fun a => x 0 a - x 1 a)

/-- and the third. -/
def axis3 (x : Fin 3 → Fin 3 → EReal) : Fin 3 → EReal := cross (axis1 x) (axis2 x)

/-- The total weight. -/
def total (s w : Fin 20 → EReal) : EReal := ∑ k, s k * w k

/-- The weighted mean of a table's entries. -/
def mean (s c w : Fin 20 → EReal) : EReal := Ideal.div (∑ k, s k * c k * w k) (total s w)

/-- The mean coordinates placed in the residue's frame. -/
def position (x : Fin 3 → Fin 3 → EReal) (m : Fin 3 → EReal) (a : Fin 3) : EReal :=
  m 0 * axis1 x a + m 1 * axis2 x a + m 2 * axis3 x a + x 1 a

/-- The seventeen channels: the position, the twelve mean types, the mean radius, the total weight. -/
def channel (s : Fin 20 → EReal) (x : Fin 3 → Fin 3 → EReal) (c : Fin 20 → Fin 3 → EReal) (t : Fin 20 → Fin 12 → EReal)
    (w r : Fin 20 → EReal) (q : Fin 17) : EReal :=
  if h : q.val < 3 then position x (fun a => mean s (fun k => c k a) w) ⟨q.val, h⟩
  else if h' : q.val - 3 < 12 then mean s (fun k => t k ⟨q.val - 3, h'⟩) w
  else if q.val - 3 - 12 < 1 then mean s r w else total s w

end Cert.Spec

end
-- ==== Proof.RefAt.lean ====
/-
  The reference's rows at an index: pseudo-atom `i % 5` of residue `i / 5`, over the extended reals.
-/
module

public import proofs.«01_k».proof.Proof.RefRun
public import proofs.«01_k».proof.Proof.Spec

@[expose] public section

noncomputable section

namespace Cert.ReferenceIdeal.Line

open Cert.ReferenceIdeal Cert.ReferenceIdeal.Facts₀ Cert.ReferenceIdeal.Facts
open Idealize.ShloMosaic Idealize.SL.Sem

/-- The total weights, entry by entry. -/
theorem weight_at (s : FVec Ideal S50000x20 .f32) (w : FVec Ideal S1x20x5x1 .f32) (l : Fin 50000) (p : Fin 5) :
    weight s w (ix3 l p 0) = Spec.total (fun k => s (ix2 l k)) (fun k => w (ix4 0 k p 0)) := by
  pointwise [weight, spread, Spec.total]

/-- The mean coordinates. -/
theorem local3_at (s : FVec Ideal S50000x20 .f32) (c : FVec Ideal S1x20x5x3 .f32) (w : FVec Ideal S1x20x5x1 .f32) (l : Fin 50000)
    (p : Fin 5) (a : Fin 3) :
    local3 s c w (ix3 l p a) = Spec.mean (fun k => s (ix2 l k)) (fun k => c (ix4 0 k p a)) (fun k => w (ix4 0 k p 0)) := by
  pointwise [local3, spread, weight_at, Spec.mean]

/-- The mean types. -/
theorem types12_at (s : FVec Ideal S50000x20 .f32) (t : FVec Ideal S1x20x5x12 .f32) (w : FVec Ideal S1x20x5x1 .f32) (l : Fin 50000)
    (p : Fin 5) (a : Fin 12) :
    types12 s t w (ix3 l p a) = Spec.mean (fun k => s (ix2 l k)) (fun k => t (ix4 0 k p a)) (fun k => w (ix4 0 k p 0)) := by
  pointwise [types12, spread, weight_at, Spec.mean]

/-- The mean radii. -/
theorem radius_at (s : FVec Ideal S50000x20 .f32) (r w : FVec Ideal S1x20x5x1 .f32) (l : Fin 50000) (p : Fin 5) :
    radius s r w (ix3 l p 0) = Spec.mean (fun k => s (ix2 l k)) (fun k => r (ix4 0 k p 0)) (fun k => w (ix4 0 k p 0)) := by
  pointwise [radius, spread, weight_at, Spec.mean]

/-- The middle atoms. -/
theorem center_at (x : FVec Ideal S50000x3x3 .f32) (l : Fin 50000) (a : Fin 3) : center x (ix3 0 l a) = x (ix3 l 1 a) := by
  pointwise [center, point]

/-- The third atoms from the middle ones. -/
theorem reach_at (x : FVec Ideal S50000x3x3 .f32) (l : Fin 50000) (a : Fin 3) :
    reach x (ix3 0 l a) = x (ix3 l 2 a) - x (ix3 l 1 a) := by
  pointwise [reach, center, point]

/-- The first atoms from the middle ones. -/
theorem lever_at (x : FVec Ideal S50000x3x3 .f32) (l : Fin 50000) (a : Fin 3) :
    lever x (ix3 0 l a) = x (ix3 l 0 a) - x (ix3 l 1 a) := by
  pointwise [lever, center, point]

/-- The unit vectors. -/
theorem direction_at (v : FVec Ideal S1x50000x3 .f32) (l : Fin 50000) (a : Fin 3) :
    direction v (ix3 0 l a) = Spec.unit (fun b => v (ix3 0 l b)) a := by
  pointwise [direction, over, size, added, Spec.unit, Spec.length, Spec.small]

/-- The parts across a vector. -/
theorem across_at (e v : FVec Ideal S1x50000x3 .f32) (l : Fin 50000) (a : Fin 3) :
    across e v (ix3 0 l a) = Spec.across (fun b => e (ix3 0 l b)) (fun b => v (ix3 0 l b)) a := by
  pointwise [across, added, Spec.across]

/-- The cross products. -/
theorem product_at (u v : FVec Ideal S1x50000x3 .f32) (l : Fin 50000) (a : Fin 3) :
    product u v (ix3 0 l a) = Spec.cross (fun b => u (ix3 0 l b)) (fun b => v (ix3 0 l b)) a := by
  pointwise [product, minor, part, Spec.cross]
  fin_cases a <;> rfl

/-- The first axes. -/
theorem first_at (x : FVec Ideal S50000x3x3 .f32) (l : Fin 50000) (a : Fin 3) :
    first x (ix3 0 l a) = Spec.axis1 (fun b d => x (ix3 l b d)) a := by
  rw [first, direction_at]; simp only [reach_at]; rfl

/-- The second axes. -/
theorem second_at (x : FVec Ideal S50000x3x3 .f32) (l : Fin 50000) (a : Fin 3) :
    second x (ix3 0 l a) = Spec.axis2 (fun b d => x (ix3 l b d)) a := by
  rw [second, direction_at]; simp only [across_at, first_at, lever_at]; rfl

/-- The third axes. -/
theorem third_at (x : FVec Ideal S50000x3x3 .f32) (l : Fin 50000) (a : Fin 3) :
    product (first x) (second x) (ix3 0 l a) = Spec.axis3 (fun b d => x (ix3 l b d)) a := by
  rw [product_at]; simp only [first_at, second_at]; rfl

/-- The positions. -/
theorem placed_at (m : FVec Ideal S50000x5x3 .f32) (e1 e2 e3 o : FVec Ideal S1x50000x3 .f32) (l : Fin 50000) (p : Fin 5) (a : Fin 3) :
    placed m (rotation e1 e2 e3) o (ix3 l p a)
      = m (ix3 l p 0) * e1 (ix3 0 l a) + m (ix3 l p 1) * e2 (ix3 0 l a) + m (ix3 l p 2) * e3 (ix3 0 l a) + o (ix3 0 l a) := by
  pointwise [placed, turned, rotation]
  rw [Fin.sum_univ_three]
  rfl

/-- One chain's rows. -/
theorem chain_at (s : FVec Ideal S50000x20 .f32) (x : FVec Ideal S50000x3x3 .f32) (c : FVec Ideal S1x20x5x3 .f32) (t : FVec Ideal S1x20x5x12 .f32)
    (w r : FVec Ideal S1x20x5x1 .f32) (l : Fin 50000) (p : Fin 5) (i : Fin 250000) (hl : i.val / 5 = l.val) (hp : i.val % 5 = p.val) (q : Fin 17) :
    chain s x c t w r (ix2 i q)
      = Spec.channel (fun k => s (ix2 l k)) (fun a b => x (ix3 l a b)) (fun k a => c (ix4 0 k p a)) (fun k a => t (ix4 0 k p a))
          (fun k => w (ix4 0 k p 0)) (fun k => r (ix4 0 k p 0)) q := by
  have el : (⟨i.val / 5, by omega⟩ : Fin 50000) = l := Fin.ext hl
  have ep : (⟨i.val % 5, by omega⟩ : Fin 5) = p := Fin.ext hp
  pointwise [chain, gathered, stacked]
  simp only [el, ep]
  simp only [placed_at, third_at, first_at, second_at, center_at, local3_at, types12_at, radius_at, weight_at]
  rfl

/-- Both chains' rows. -/
theorem joined_at (s1 : FVec Ideal S50000x20 .f32) (x1 : FVec Ideal S50000x3x3 .f32) (s2 : FVec Ideal S50000x20 .f32) (x2 : FVec Ideal S50000x3x3 .f32)
    (c : FVec Ideal S1x20x5x3 .f32) (t : FVec Ideal S1x20x5x12 .f32) (w r : FVec Ideal S1x20x5x1 .f32) (i : Fin 500000) (q : Fin 17) :
    joined s1 x1 s2 x2 c t w r (ix2 i q)
      = if h : i.val < 250000 then chain s1 x1 c t w r (ix2 ⟨i.val, h⟩ q) else chain s2 x2 c t w r (ix2 ⟨i.val - 250000, by omega⟩ q) := by
  pointwise [joined]

end Cert.ReferenceIdeal.Line

end
-- ==== Proof.Nonzero.lean ====
/-
  The precondition read at an index: on a device where it holds, every pseudo-atom's total weight, of either chain, is
  not zero.
-/
module

public import proofs.«01_k».proof.Pre_weights_nonzero
public import proofs.«01_k».proof.Proof.RefAt
public import Idealize.ShloMosaic.Lib.Decide

@[expose] public section

noncomputable section

namespace Cert.Nonzero

open Idealize.ShloMosaic
open Cert.Pre_weights_nonzero

/-- The shape relations the precondition's lines take: five of them the reference takes too. -/
instance facts : Cert.Pre_weights_nonzero.Facts where
  bcast_S50000x20_S50000x20x1x1_0_1 := Cert.ReferenceIdeal.Gen.bcast_S50000x20_S50000x20x1x1_0_1
  bcast_S50000x20x1x1_S50000x20x5x1_0_1_2_3 := Cert.ReferenceIdeal.Gen.bcast_S50000x20x1x1_S50000x20x5x1_0_1_2_3
  bcast_S1x20x5x1_S50000x20x5x1_0_1_2_3 := Cert.ReferenceIdeal.Gen.bcast_S1x20x5x1_S50000x20x5x1_0_1_2_3
  reducesTo_S50000x20x5x1_S50000x5x1_d1 := Cert.ReferenceIdeal.Gen.reducesTo_S50000x20x5x1_S50000x5x1_d1
  h_S_ := Cert.ReferenceIdeal.Gen.h_S_
  bcast_S_S50000x5x1 := by decide

/-- The conjunction of two conditions' bits is one when both hold. -/
theorem both (P Q : Prop) [Decidable P] [Decidable Q] (h : IntOp.andi (BitVec.ofBool (decide P)) (BitVec.ofBool (decide Q)) = 1#1) : P ∧ Q := by
  by_cases hP : P <;> by_cases hQ : Q <;> simp [IntOp.andi, hP, hQ] at h ⊢

/-- The precondition, entry by entry. -/
theorem totals (s1 s2 : FVec Ideal S50000x20 .f32) (x1 x2 : FVec Ideal S50000x3x3 .f32) (c : FVec Ideal S1x20x5x3 .f32)
    (t : FVec Ideal S1x20x5x12 .f32) (w r : FVec Ideal S1x20x5x1 .f32)
    [Cert.Pre_weights_nonzero.Facts] (h : Cert.Pre_weights_nonzero.fn (F := Ideal) s1 x1 s2 x2 c t w r = fun _ => 1#1) (l : Fin 50000) (p : Fin 5) :
    Spec.total (fun k => s1 (ix2 l k)) (fun k => w (ix4 0 k p 0)) ≠ 0 ∧ Spec.total (fun k => s2 (ix2 l k)) (fun k => w (ix4 0 k p 0)) ≠ 0 := by
  have e := congrFun h (ix3 l p 0)
  revert e
  pointwise [Cert.Pre_weights_nonzero.fn]
  exact both _ _

end Cert.Nonzero

end
-- ==== Proof.BlockAt.lean ====
/-
  The block's arithmetic at an index, over the extended reals: column `l` of a group depends on column `l` of the
  contracted block and of the backbone block alone.
-/
module

public import proofs.«01_k».proof.Proof.Block
public import proofs.«01_k».proof.Proof.Spec

@[expose] public section

noncomputable section

namespace Cert.Placement

open Idealize.ShloMosaic
open Cert.KernelIdeal Cert.KernelIdeal.Facts₀ Cert.KernelIdeal.Facts

/-- The contracted block. -/
theorem contracted_at (st : FVec Ideal S20x4096 .f32) (w : FVec Ideal S85x20 .f32) (q : Fin 85) (l : Fin 4096) :
    contracted st w (ix2 q l) = ∑ k : Fin 20, w (ix2 q k) * st (ix2 k l) := by
  pointwise [contracted]

/-- The atoms' coordinates. -/
theorem atom_at (bb : FVec Ideal S3x3x4096 .f32) (a : Nat) (ha : a < 3) (h : S3x3x4096.Slices ![a, 0, 0] S1x3x4096) (b : Fin 3) (l : Fin 4096) :
    atom bb a h (ix2 b l) = bb (ix3 ⟨a, ha⟩ b l) := by
  pointwise [atom]

/-- The origin's. -/
theorem origin_at (bb : FVec Ideal S3x3x4096 .f32) (b : Fin 3) (l : Fin 4096) : origin bb (ix2 b l) = bb (ix3 1 b l) :=
  atom_at bb 1 (by omega) _ b l

/-- The arm's. -/
theorem arm_at (bb : FVec Ideal S3x3x4096 .f32) (b : Fin 3) (l : Fin 4096) : arm bb (ix2 b l) = bb (ix3 0 b l) - bb (ix3 1 b l) := by
  pointwise [arm, atom, origin]

/-- The sum of a vector's coordinates. -/
theorem total_at (v : FVec Ideal S3x4096 .f32) (l : Fin 4096) : total v (ix2 0 l) = ∑ a : Fin 3, v (ix2 a l) := by
  pointwise [total]

/-- The unit vectors. -/
theorem unit_at (v : FVec Ideal S3x4096 .f32) (b : Fin 3) (l : Fin 4096) : unit v (ix2 b l) = Spec.unit (fun a => v (ix2 a l)) b := by
  pointwise [unit, total_at, Spec.unit, Spec.length, Spec.small]

/-- The first axis. -/
theorem axis1_at (bb : FVec Ideal S3x3x4096 .f32) (b : Fin 3) (l : Fin 4096) :
    axis1 bb (ix2 b l) = Spec.axis1 (fun a d => bb (ix3 a d l)) b := by
  rw [axis1, unit_at]; pointwise [atom, origin, Spec.axis1]

/-- The second axis. -/
theorem axis2_at (bb : FVec Ideal S3x3x4096 .f32) (b : Fin 3) (l : Fin 4096) :
    axis2 bb (ix2 b l) = Spec.axis2 (fun a d => bb (ix3 a d l)) b := by
  rw [axis2, unit_at]; pointwise [total_at, axis1_at, arm_at]; rfl

/-- The cross product. -/
theorem crossed_at (u v : FVec Ideal S3x4096 .f32) (b : Fin 3) (l : Fin 4096) :
    crossed u v (ix2 b l) = Spec.cross (fun a => u (ix2 a l)) (fun a => v (ix2 a l)) b := by
  pointwise [crossed, coord, Spec.cross]
  fin_cases b <;> rfl

/-- The third axis. -/
theorem axis3_at (bb : FVec Ideal S3x3x4096 .f32) (b : Fin 3) (l : Fin 4096) :
    crossed (axis1 bb) (axis2 bb) (ix2 b l) = Spec.axis3 (fun a d => bb (ix3 a d l)) b := by
  rw [crossed_at]; simp only [axis1_at, axis2_at]; rfl

/-- A row of the contracted block. -/
theorem row_at (m : FVec Ideal S85x4096 .f32) (p r : Nat) (hp : p < 5) (hr : r < 17) (l : Fin 4096) :
    row m p r hp hr (ix2 0 l) = m (ix2 ⟨p * 17 + r, by omega⟩ l) := by
  pointwise [row]

/-- The reciprocal of the total weight. -/
theorem recip_at (m : FVec Ideal S85x4096 .f32) (p : Nat) (hp : p < 5) (l : Fin 4096) :
    recip m p hp (ix2 0 l) = Ideal.div 1 (m (ix2 ⟨p * 17 + 16, by omega⟩ l)) := by
  pointwise [recip, row_at]

/-- A mean coordinate along an axis. -/
theorem along_at (m : FVec Ideal S85x4096 .f32) (p r : Nat) (hp : p < 5) (hr : r < 17) (e : FVec Ideal S3x4096 .f32) (b : Fin 3) (l : Fin 4096) :
    along m p r hp hr e (ix2 b l)
      = m (ix2 ⟨p * 17 + r, by omega⟩ l) * Ideal.div 1 (m (ix2 ⟨p * 17 + 16, by omega⟩ l)) * e (ix2 b l) := by
  pointwise [along, row_at, recip_at]

/-- A group's seventeen channels from its seventeen sums and the residue's atoms. -/
def channels (g : Fin 17 → EReal) (x : Fin 3 → Fin 3 → EReal) (q : Fin 17) : EReal :=
  if h : q.val < 3 then
    g 0 * Ideal.div 1 (g 16) * Spec.axis1 x ⟨q.val, h⟩ + g 1 * Ideal.div 1 (g 16) * Spec.axis2 x ⟨q.val, h⟩
      + g 2 * Ideal.div 1 (g 16) * Spec.axis3 x ⟨q.val, h⟩ + x 1 ⟨q.val, h⟩
  else if q.val - 3 < 13 then g q * Ideal.div 1 (g 16) else g 16

/-- A group at an index. -/
theorem group_at (m : FVec Ideal S85x4096 .f32) (bb : FVec Ideal S3x3x4096 .f32) (p : Nat) (hp : p < 5) (q : Fin 17) (l : Fin 4096) :
    group m bb p hp (ix2 q l) = channels (fun j => m (ix2 ⟨p * 17 + j.val, by omega⟩ l)) (fun a d => bb (ix3 a d l)) q := by
  pointwise [group, along_at, axis1_at, axis2_at, axis3_at, origin_at, recip_at, row_at]
  unfold channels
  by_cases h : q.val < 3
  · rw [dif_pos h, dif_pos h]; rfl
  rw [dif_neg h, dif_neg h]
  by_cases h' : q.val - 3 < 13
  · have e : (⟨p * 17 + 3 + (q.val - 3), by omega⟩ : Fin 85) = ⟨p * 17 + q.val, by omega⟩ := Fin.ext (by show p * 17 + 3 + (q.val - 3) = p * 17 + q.val; omega)
    rw [if_pos h']
    simp only [h', dite_true, e]
    rfl
  · have e : (⟨q.val - 3 - 13, by omega⟩ : Fin 1) = 0 := Subsingleton.elim _ _
    rw [if_neg h']
    simp only [h', dite_false, e, row_at]
    rfl

/-- Over a nonzero divisor, multiplying by the reciprocal is dividing. -/
theorem mul_recip (a : EReal) {d : EReal} (hd : d ≠ 0) : a * Ideal.div 1 d = Ideal.div a d := by
  unfold Ideal.div
  rw [if_neg hd, if_neg hd, one_mul]

/-- With a nonzero total weight, a group's channels are the stated ones. -/
theorem channels_eq (g : Fin 17 → EReal) (s : Fin 20 → EReal) (x : Fin 3 → Fin 3 → EReal) (c : Fin 20 → Fin 3 → EReal)
    (t : Fin 20 → Fin 12 → EReal) (w r : Fin 20 → EReal) (W : Fin 17 → Fin 20 → EReal)
    (hg : ∀ j, g j = ∑ k, W j k * s k)
    (hc : ∀ (j : Fin 3) k, W ⟨j.val, by omega⟩ k = c k j * w k)
    (ht : ∀ (j : Fin 12) k, W ⟨j.val + 3, by omega⟩ k = t k j * w k)
    (hr : ∀ k, W 15 k = r k * w k) (hw : ∀ k, W 16 k = w k) (hd : Spec.total s w ≠ 0) (q : Fin 17) :
    channels g x q = Spec.channel s x c t w r q := by
  have h16 : g 16 = Spec.total s w := by
    rw [hg]; exact Finset.sum_congr rfl fun k _ => by rw [hw, mul_comm]
  have hm (j : Fin 17) (d : Fin 20 → EReal) (h : ∀ k, W j k = d k * w k) : g j * Ideal.div 1 (g 16) = Spec.mean s d w := by
    rw [h16, mul_recip _ hd, hg]
    unfold Spec.mean
    congr 1
    exact Finset.sum_congr rfl fun k _ => by rw [h, mul_comm, mul_assoc]
  unfold channels Spec.channel
  by_cases h : q.val < 3
  · rw [dif_pos h, dif_pos h, hm 0 _ (hc 0), hm 1 _ (hc 1), hm 2 _ (hc 2)]; rfl
  rw [dif_neg h, dif_neg h]
  by_cases h' : q.val - 3 < 12
  · have e : (⟨q.val - 3 + 3, by omega⟩ : Fin 17) = q := Fin.ext (by show q.val - 3 + 3 = q.val; omega)
    rw [if_pos (by omega), dif_pos h']
    exact hm q _ fun k => by rw [← ht ⟨q.val - 3, h'⟩ k, e]
  rw [dif_neg h']
  by_cases h'' : q.val - 3 - 12 < 1
  · have e : q = 15 := Fin.ext (by show q.val = 15; omega)
    rw [if_pos (by omega), if_pos h'', e]
    exact hm 15 _ hr
  · rw [if_neg (by omega), if_neg h'', h16]

end Cert.Placement

end
-- ==== Proof.TileAt.lean ====
/-
  The interleaving at an index: column `n` of a span's 640 holds group `n % 5` at column `n / 5` of the span's 128.
-/
module

public import proofs.«01_k».proof.Proof.BlockAt

@[expose] public section

noncomputable section

namespace Cert.Placement

open Idealize.ShloMosaic
open Cert.KernelIdeal Cert.KernelIdeal.Facts₀ Cert.KernelIdeal.Facts

/-- The lane number over five, rounded down. -/
theorem fifth_at (r : Fin 17) (n : Fin 640) : fifth (ix2 r n) = BitVec.ofNat 32 (n.val / 5) := by
  pointwise [fifth, lanes]
  clear r; revert n
  decide +kernel

/-- The lane number modulo five. -/
theorem modulo_at (r : Fin 17) (n : Fin 640) : modulo (ix2 r n) = BitVec.ofNat 32 (n.val % 5) := by
  pointwise [modulo, lanes, five]
  clear r; revert n
  decide +kernel

/-- The mask's bit, as a word. -/
theorem bit (a b : Fin 5) : (IntOp.cmpi CmpIPredicate.eq (BitVec.ofNat 32 a.val) (BitVec.ofNat 32 b.val)).setWidth 32
    = if a.val = b.val then 1#32 else 0#32 := by
  revert a b; decide +kernel

/-- The mask of remainder `p`. -/
theorem mask_at (p : Fin 5) (r : Fin 17) (n : Fin 640) :
    mask (F := Ideal) (BitVec.ofNat 32 p.val) (ix2 r n) = if n.val % 5 = p.val then 1 else 0 := by
  pointwise [mask, modulo_at]
  rw [bit ⟨n.val % 5, Nat.mod_lt _ (by omega)⟩ p]
  show (((if n.val % 5 = p.val then 1#32 else 0#32 : BitVec 32).toInt : ℝ) : EReal) = _
  split_ifs
  · show ((((1 : ℤ)) : ℝ) : EReal) = 1
    norm_num
  · show ((((0 : ℤ)) : ℝ) : EReal) = 0
    norm_num

/-- A column number under 128 is not negative. -/
theorem wrap (a : Fin 128) : Scalar.select (IntOp.cmpi CmpIPredicate.slt (BitVec.ofNat 32 a.val) 0#32)
    (IntOp.addi (BitVec.ofNat 32 a.val) 128#32) (BitVec.ofNat 32 a.val) = BitVec.ofNat 32 a.val := by
  revert a; decide +kernel

/-- The columns to take. -/
theorem picked_at (k : Nat) (hk : k < 5) (r : Fin 17) (j : Fin 128) :
    picked k hk (ix2 r j) = BitVec.ofNat 32 ((k * 128 + j.val) / 5) := by
  pointwise [picked, picks, fifth_at]
  exact wrap ⟨(k * 128 + j.val) / 5, by omega⟩

/-- One group's share of a part. -/
theorem share_at (g : FVec Ideal S17x4096 .f32) (p : Fin 5) (u k : Nat) (hu : u < 32) (hk : k < 5) (r : Fin 17) (j : Fin 128) :
    share g (BitVec.ofNat 32 p.val) u k hu hk (ix2 r j)
      = g (ix2 r ⟨u * 128 + (k * 128 + j.val) / 5, by omega⟩) * if (k * 128 + j.val) % 5 = p.val then 1 else 0 := by
  have e : (BitVec.ofNat 32 ((k * 128 + j.val) / 5)).toNat % 128 = (k * 128 + j.val) / 5 := by
    rw [BitVec.toNat_ofNat]; omega
  pointwise [share, mask_at, picked_at]
  simp only [e]

/-- Of five values, the masks keep one. -/
theorem choose (f : (y : Nat) → y < 5 → EReal) (y : Nat) (h : y < 5) :
    ((((f 0 (by omega) * if y = (0 : Fin 5).val then 1 else 0) + (f 1 (by omega) * if y = (1 : Fin 5).val then 1 else 0))
      + (f 2 (by omega) * if y = (2 : Fin 5).val then 1 else 0)) + (f 3 (by omega) * if y = (3 : Fin 5).val then 1 else 0))
      + (f 4 (by omega) * if y = (4 : Fin 5).val then 1 else 0) = f y h := by
  interval_cases y <;> simp

/-- A part's columns: the group of the lane's remainder. -/
theorem tile_at (m : FVec Ideal S85x4096 .f32) (bb : FVec Ideal S3x3x4096 .f32) (u k : Nat) (hu : u < 32) (hk : k < 5) (r : Fin 17) (j : Fin 128) :
    tile m bb u k hu hk (ix2 r j)
      = group m bb ((k * 128 + j.val) % 5) (Nat.mod_lt _ (by omega)) (ix2 r ⟨u * 128 + (k * 128 + j.val) / 5, by omega⟩) := by
  unfold tile
  show share _ (BitVec.ofNat 32 (0 : Fin 5).val) u k hu hk (ix2 r j) + share _ (BitVec.ofNat 32 (1 : Fin 5).val) u k hu hk (ix2 r j)
    + share _ (BitVec.ofNat 32 (2 : Fin 5).val) u k hu hk (ix2 r j) + share _ (BitVec.ofNat 32 (3 : Fin 5).val) u k hu hk (ix2 r j)
    + share _ (BitVec.ofNat 32 (4 : Fin 5).val) u k hu hk (ix2 r j) = _
  simp only [share_at]
  exact choose (fun y h => group m bb y h (ix2 r ⟨u * 128 + (k * 128 + j.val) / 5, by omega⟩)) _ (Nat.mod_lt _ (by omega))

end Cert.Placement

end
-- ==== Proof.MadeAt.lean ====
/-
  The kernel's block at an index, on the extended reals: column `n` of the result's block is group `n % 5` of the
  residue in column `n / 5` of the input blocks, and depends on no other column of them.
-/
module

public import proofs.«01_k».proof.Proof.TileAt
public import proofs.«01_k».proof.Proof.RunIdeal

@[expose] public section

noncomputable section

namespace Cert.KernelIdeal.Placement

open Cert.KernelIdeal Cert.KernelIdeal.Gen Cert.Placement
open Idealize.ShloMosaic

/-- Column `n` of the result's block. -/
theorem made_at (st : FVec Ideal S20x4096 .f32) (bb : FVec Ideal S3x3x4096 .f32) (w : FVec Ideal S85x20 .f32) (r : Fin 17) (n : Fin 20480)
    (p : Fin 5) (l : Fin 4096) (hp : n.val % 5 = p.val) (hl : n.val / 5 = l.val) :
    made st bb w (ix2 r n)
      = channels (fun j => ∑ k, w (ix2 ⟨p.val * 17 + j.val, by omega⟩ k) * st (ix2 k l)) (fun a d => bb (ix3 a d l)) r := by
  have hw : within (ix2 r n) = ix2 r ⟨n.val % 128, Nat.mod_lt _ (by decide)⟩ := funext fun a => by
    match a with
    | ⟨0, _⟩ => rfl
    | ⟨1, _⟩ => rfl
  show stored (contracted st w) bb (n.val / 128) (by omega) (within (ix2 r n)) = _
  rw [hw, stored, tile_at, group_at]
  have e1 : (n.val / 128 % 5 * 128 + n.val % 128) % 5 = p.val := by omega
  have e2 : n.val / 128 / 5 * 128 + (n.val / 128 % 5 * 128 + n.val % 128) / 5 = l.val := by omega
  have e3 : ∀ h, (⟨n.val / 128 / 5 * 128 + (n.val / 128 % 5 * 128 + n.val % 128) / 5, h⟩ : Fin 4096) = l := fun h => Fin.ext e2
  simp only [e1, e3, contracted_at]

end Cert.KernelIdeal.Placement

end
-- ==== Proof.PlacedAt.lean ====
/-
  The blocks the region fetches and writes back, at an index, on the extended reals: what the body leaves in the
  result's block at a grid point is, on the columns inside the array, that point's block of one array of the region's
  three inputs.
-/
module

public import proofs.«01_k».proof.Proof.MadeAt
public import Idealize.ShloMosaic.Lib.Pipeline.Value

@[expose] public section

noncomputable section

namespace Cert.KernelIdeal.Placement

open Cert.KernelIdeal Cert.KernelIdeal.Gen Cert.Placement
open Idealize.ShloMosaic

/-- The region's result: column `n` is group `n % 5` of residue `n / 5`. -/
def whole (s : S20x100000.Idx → EReal) (x : S3x3x100000.Idx → EReal) (w : S85x20.Idx → EReal) (q : Fin 17) (n : Fin 500000) : EReal :=
  channels (fun j => ∑ k, w (ix2 ⟨n.val % 5 * 17 + j.val, by omega⟩ k) * s (ix2 k ⟨n.val / 5, by omega⟩))
    (fun a d => x (ix3 a d ⟨n.val / 5, by omega⟩)) q

/-- The same as an array. -/
def wholeArr (s : S20x100000.Idx → EReal) (x : S3x3x100000.Idx → EReal) (w : S85x20.Idx → EReal) : S17x500000.Idx → EReal :=
  fun i => whole s x w ⟨(i (0 : Fin 2)).val, (i (0 : Fin 2)).isLt⟩ ⟨(i (1 : Fin 2)).val, (i (1 : Fin 2)).isLt⟩

/-- Where the types' block lies: the point's along the residues. -/
theorem index_0 : ∀ t : Fin grid0.N, win0_0.index t (0 : Fin 2) = 0 ∧ win0_0.index t (1 : Fin 2) = t.val := by decide +kernel
/-- Where the atoms' block lies: the point's along the residues. -/
theorem index_1 : ∀ t : Fin grid0.N, win0_1.index t (0 : Fin 3) = 0 ∧ win0_1.index t (1 : Fin 3) = 0 ∧ win0_1.index t (2 : Fin 3) = t.val := by
  decide +kernel
/-- The weight columns' block is the first. -/
theorem index_2 : ∀ t : Fin grid0.N, win0_2.index t (0 : Fin 2) = 0 ∧ win0_2.index t (1 : Fin 2) = 0 := by decide +kernel
/-- Where the result's block lies: the point's along the columns. -/
theorem index_3 : ∀ t : Fin grid0.N, win0_3.index t (0 : Fin 2) = 0 ∧ win0_3.index t (1 : Fin 2) = t.val := by decide +kernel

/-- How much of the types' block is moved: all of it but at the array's end. -/
theorem moved_0 : ∀ t : Fin grid0.N, win0_0.xsize (grid0.coords t) (0 : Fin 2) = 20
    ∧ win0_0.xsize (grid0.coords t) (1 : Fin 2) = min 4096 (100000 - t.val * 4096) := by decide +kernel
/-- How much of the atoms' block is moved. -/
theorem moved_1 : ∀ t : Fin grid0.N, win0_1.xsize (grid0.coords t) (0 : Fin 3) = 3 ∧ win0_1.xsize (grid0.coords t) (1 : Fin 3) = 3
    ∧ win0_1.xsize (grid0.coords t) (2 : Fin 3) = min 4096 (100000 - t.val * 4096) := by decide +kernel
/-- How much of the result's block is moved. -/
theorem moved_3 : ∀ t : Fin grid0.N, win0_3.xsize (grid0.coords t) (0 : Fin 2) = 17
    ∧ win0_3.xsize (grid0.coords t) (1 : Fin 2) = min 20480 (500000 - t.val * 20480) := by decide +kernel

/-- The types' block just fetched, on a column inside the array. -/
theorem fetched_0 (t : Fin grid0.N) (d : S20x4096.Idx → EReal) (s : S20x100000.Idx → EReal) (k : Fin 20) (l : Fin 4096) (g : Fin 100000)
    (hg : g.val = t.val * 4096 + l.val) :
    win0_0.fill (grid0.coords t) d ((win0_0.blk t).view.read (Elt Ideal) s) (ix2 k l) = s (ix2 k g) := by
  obtain ⟨i0, i1⟩ := index_0 t
  obtain ⟨m0, m1⟩ := moved_0 t
  have hm : win0_0.moved (grid0.coords t) (ix2 k l) = true := (win0_0.moved_iff _ _).mpr fun a => by
    match a with
    | ⟨0, _⟩ => show k.val < win0_0.xsize (grid0.coords t) (0 : Fin 2); rw [m0]; exact k.isLt
    | ⟨1, _⟩ => show l.val < win0_0.xsize (grid0.coords t) (1 : Fin 2); rw [m1]; omega
  unfold Pipeline.Window.fill
  rw [dif_pos hm]
  refine congrArg s (funext fun a => Fin.ext ?_)
  match a with
  | ⟨0, _⟩ => show win0_0.index t (0 : Fin 2) * 20 + 1 * k.val = k.val; rw [i0]; omega
  | ⟨1, _⟩ => show win0_0.index t (1 : Fin 2) * 4096 + 1 * l.val = g.val; rw [i1]; omega

/-- The atoms' block just fetched, on a column inside the array. -/
theorem fetched_1 (t : Fin grid0.N) (d : S3x3x4096.Idx → EReal) (x : S3x3x100000.Idx → EReal) (a b : Fin 3) (l : Fin 4096) (g : Fin 100000)
    (hg : g.val = t.val * 4096 + l.val) :
    win0_1.fill (grid0.coords t) d ((win0_1.blk t).view.read (Elt Ideal) x) (ix3 a b l) = x (ix3 a b g) := by
  obtain ⟨i0, i1, i2⟩ := index_1 t
  obtain ⟨m0, m1, m2⟩ := moved_1 t
  have hm : win0_1.moved (grid0.coords t) (ix3 a b l) = true := (win0_1.moved_iff _ _).mpr fun e => by
    match e with
    | ⟨0, _⟩ => show a.val < win0_1.xsize (grid0.coords t) (0 : Fin 3); rw [m0]; exact a.isLt
    | ⟨1, _⟩ => show b.val < win0_1.xsize (grid0.coords t) (1 : Fin 3); rw [m1]; exact b.isLt
    | ⟨2, _⟩ => show l.val < win0_1.xsize (grid0.coords t) (2 : Fin 3); rw [m2]; omega
  unfold Pipeline.Window.fill
  rw [dif_pos hm]
  refine congrArg x (funext fun e => Fin.ext ?_)
  match e with
  | ⟨0, _⟩ => show win0_1.index t (0 : Fin 3) * 3 + 1 * a.val = a.val; rw [i0]; omega
  | ⟨1, _⟩ => show win0_1.index t (1 : Fin 3) * 3 + 1 * b.val = b.val; rw [i1]; omega
  | ⟨2, _⟩ => show win0_1.index t (2 : Fin 3) * 4096 + 1 * l.val = g.val; rw [i2]; omega

/-- The weight columns' block is the array. -/
theorem fetched_2 (t : Fin grid0.N) (w : S85x20.Idx → EReal) :
    (win0_2.blk t).view.read (Elt Ideal) w = w := by
  obtain ⟨i0, i1⟩ := index_2 t
  refine funext fun j => congrArg w (funext fun a => Fin.ext ?_)
  match a with
  | ⟨0, _⟩ => show win0_2.index t (0 : Fin 2) * 85 + 1 * (j (0 : Fin 2)).val = (j (0 : Fin 2)).val; rw [i0]; omega
  | ⟨1, _⟩ => show win0_2.index t (1 : Fin 2) * 20 + 1 * (j (1 : Fin 2)).val = (j (1 : Fin 2)).val; rw [i1]; omega

/-- The result's block at a column inside the array. -/
theorem block_3 (t : Fin grid0.N) (f : S17x500000.Idx → EReal) (j : (win0_3.xblock (grid0.coords t)).Idx) (i : S17x500000.Idx)
    (h0 : (i (0 : Fin 2)).val = (j (0 : Fin 2)).val) (h1 : (i (1 : Fin 2)).val = t.val * 20480 + (j (1 : Fin 2)).val) :
    (win0_3.blk t).view.read (Elt Ideal) f j = f i := by
  obtain ⟨i0, i1⟩ := index_3 t
  refine congrArg f (funext fun a => Fin.ext ?_)
  match a with
  | ⟨0, _⟩ => show win0_3.index t (0 : Fin 2) * 17 + 1 * (j (0 : Fin 2)).val = (i (0 : Fin 2)).val; rw [i0]; omega
  | ⟨1, _⟩ => show win0_3.index t (1 : Fin 2) * 20480 + 1 * (j (1 : Fin 2)).val = (i (1 : Fin 2)).val; rw [i1]; omega

/-- What the body makes of the fetched blocks, whatever lies past the arrays' end, is on the columns inside the array
    the point's block of the region's result. -/
theorem made_filled (t : Fin grid0.N) (d0 : S20x4096.Idx → EReal) (d1 : S3x3x4096.Idx → EReal) (s : S20x100000.Idx → EReal)
    (x : S3x3x100000.Idx → EReal) (w : S85x20.Idx → EReal) :
    made (F := Ideal) (win0_0.fill (grid0.coords t) d0 ((win0_0.blk t).view.read (Elt Ideal) s))
        (win0_1.fill (grid0.coords t) d1 ((win0_1.blk t).view.read (Elt Ideal) x)) ((win0_2.blk t).view.read (Elt Ideal) w)
      = win0_3.fill (grid0.coords t)
          (made (F := Ideal) (win0_0.fill (grid0.coords t) d0 ((win0_0.blk t).view.read (Elt Ideal) s))
            (win0_1.fill (grid0.coords t) d1 ((win0_1.blk t).view.read (Elt Ideal) x)) ((win0_2.blk t).view.read (Elt Ideal) w))
          ((win0_3.blk t).view.read (Elt Ideal) (wholeArr s x w)) := by
  funext j
  by_cases hm : win0_3.moved (grid0.coords t) j = true
  swap
  · rw [Pipeline.Window.fill_of_not_moved _ _ _ _ hm]
  have hm' := (win0_3.moved_iff _ _).mp hm
  obtain ⟨m0, m1⟩ := moved_3 t
  have ht : t.val < 25 := N_0 ▸ t.isLt
  have hr : (j (0 : Fin 2)).val < 17 := (j (0 : Fin 2)).isLt
  have hn : (j (1 : Fin 2)).val < 20480 := (j (1 : Fin 2)).isLt
  have hc : (j (1 : Fin 2)).val < min 20480 (500000 - t.val * 20480) := m1 ▸ hm' (1 : Fin 2)
  have ej : j = ix2 ⟨(j (0 : Fin 2)).val, hr⟩ ⟨(j (1 : Fin 2)).val, hn⟩ := funext fun a => by
    match a with
    | ⟨0, _⟩ => rfl
    | ⟨1, _⟩ => rfl
  generalize (j (0 : Fin 2)).val = r at *
  generalize (j (1 : Fin 2)).val = n at *
  have hi : t.val * 20480 + n < 500000 := by omega
  have hfill : ∀ D, win0_3.fill (grid0.coords t) D ((win0_3.blk t).view.read (Elt Ideal) (wholeArr s x w)) j
      = whole s x w ⟨r, hr⟩ ⟨t.val * 20480 + n, hi⟩ := fun D => by
    unfold Pipeline.Window.fill
    rw [dif_pos hm]
    subst ej
    exact block_3 t (wholeArr s x w) _ (ix2 ⟨r, hr⟩ ⟨t.val * 20480 + n, hi⟩) rfl rfl
  rw [hfill, ej, fetched_2, made_at _ _ _ ⟨r, hr⟩ ⟨n, hn⟩ ⟨n % 5, by omega⟩ ⟨n / 5, by omega⟩ rfl rfl]
  have e5 : (t.val * 20480 + n) % 5 = n % 5 := by omega
  have hl : (t.val * 20480 + n) / 5 = t.val * 4096 + n / 5 := by omega
  unfold whole
  simp only [fetched_0 t d0 s _ ⟨n / 5, by omega⟩ ⟨(t.val * 20480 + n) / 5, by omega⟩ hl,
    fetched_1 t d1 x _ _ ⟨n / 5, by omega⟩ ⟨(t.val * 20480 + n) / 5, by omega⟩ hl, e5]

end Cert.KernelIdeal.Placement

end
-- ==== Proof.ValueIdeal.lean ====
/-
  The launch of the kernel on the extended reals with its result named: every weakly fair execution terminates, the
  program's result holds the region's result transposed, the argument arrays end as they began, and every semaphore
  counter ends at zero.
-/
module

public import proofs.«01_k».proof.Proof.FrameIdeal
public import proofs.«01_k».proof.Proof.PlacedAt
public import Idealize.ShloMosaic.Lib.StableHlo.ReadAt

@[expose] public section

noncomputable section

namespace Cert.KernelIdeal.Placement

open Cert.KernelIdeal Cert.KernelIdeal.Gen Cert.Placement

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

local notation "𝕄" => MT nD τ sig Unit (Elt Ideal) ℕ (UR sig nD τ) ℕ

variable (m : (ℓ : Loc nD τ sig) → Buf (Elt Ideal) ℓ) (ρ : Dev nD → PrngReg)

/-- The region's residue types on device `c`. -/
abbrev types (c : Dev nD) : S20x100000.Idx → EReal := entry m c (Proc.devRef .tc main_call0_v15)
/-- The region's atoms on device `c`. -/
abbrev atoms (c : Dev nD) : S3x3x100000.Idx → EReal := entry m c (Proc.devRef .tc main_call0_v18)
/-- The region's weight columns on device `c`. -/
abbrev columns85 (c : Dev nD) : S85x20.Idx → EReal := entry m c (Proc.devRef .tc main_call0_v12)

/-- The region's result on device `c`. -/
abbrev outcome (c : Dev nD) : S17x500000.Idx → EReal := wholeArr (types m c) (atoms m c) (columns85 m c)

/-- The types' block as a fetch reads it. -/
abbrev typesBlk (c : Dev nD) (t : Fin cfg0.N) : (win0_0.xblock (grid0.coords t)).Idx → EReal := (win0_0.blk t).view.read (Elt Ideal) (types m c)
/-- The atoms' block as a fetch reads it. -/
abbrev atomsBlk (c : Dev nD) (t : Fin cfg0.N) : (win0_1.xblock (grid0.coords t)).Idx → EReal := (win0_1.blk t).view.read (Elt Ideal) (atoms m c)
/-- The result's block at a point. -/
abbrev outBlk (c : Dev nD) (t : Fin cfg0.N) : (win0_3.xblock (grid0.coords t)).Idx → EReal := (win0_3.blk t).view.read (Elt Ideal) (outcome m c)

/-- The proof data: after the body each staging buffer holds its block, on the columns inside the array. -/
def dats (_ : Fin 1) (c : Dev nD) : Dat τ (Elt Ideal) Unit ℕ (UR sig nD τ) ℕ cfg0 c where
  A w := entry m c (Proc.devRef .tc (Pipeline.arrRef spec0 w))
  after w t := match w with
    | ⟨0, _⟩ => win0_0.fill (grid0.coords t) (fun _ => (0 : EReal)) (typesBlk m c t)
    | ⟨1, _⟩ => win0_1.fill (grid0.coords t) (fun _ => (0 : EReal)) (atomsBlk m c t)
    | ⟨2, _⟩ => columns85 m c
    | ⟨3, _⟩ => win0_3.fill (grid0.coords t) (fun _ => (0 : EReal)) (outBlk m c t)
  Φ _ := Pipeline.ΦA spec0 c
  q _ := fullShare
  owed _ := 0

/-- The types' window fetches at every point. -/
theorem fetch_0 : ∀ t : Fin grid0.N, win0_0.fetch t = true := by decide +kernel
/-- The atoms' window fetches at every point. -/
theorem fetch_1 : ∀ t : Fin grid0.N, win0_1.fetch t = true := by decide +kernel
/-- The weight columns' window fetches at the first point only. -/
theorem fetch_2 : ∀ t : Fin grid0.N, win0_2.fetch t = decide (t.val = 0) := by decide +kernel
/-- The result's window never fetches. -/
theorem fetch_3 : ∀ t : Fin grid0.N, win0_3.fetch t = false := by decide +kernel
/-- The weight columns' window never writes back. -/
theorem flush_2 : ∀ t : Fin grid0.N, win0_2.flush t = false := by decide +kernel
/-- The result's window writes back at every point. -/
theorem flush_3 : ∀ t : Fin grid0.N, win0_3.flush t = true := by decide +kernel

/-- What the body finds in the types' buffer, -/
theorem before_0 (c : Dev nD) (t : Fin cfg0.N) (d) :
    (dats m 0 c).before (0 : Fin 4) t d = win0_0.fill (grid0.coords t) d (typesBlk m c t) := by
  unfold Dat.before; rw [if_pos (fetch_0 t)]; rfl
/-- in the atoms', -/
theorem before_1 (c : Dev nD) (t : Fin cfg0.N) (d) :
    (dats m 0 c).before (1 : Fin 4) t d = win0_1.fill (grid0.coords t) d (atomsBlk m c t) := by
  unfold Dat.before; rw [if_pos (fetch_1 t)]; rfl
/-- in the weight columns', -/
theorem before_2 (c : Dev nD) (t : Fin cfg0.N) (d) : (dats m 0 c).before (2 : Fin 4) t d = columns85 m c := by
  unfold Dat.before
  by_cases h : t.val = 0
  · rw [if_pos ((fetch_2 t).trans (decide_eq_true h))]
    exact fetched_2 t (columns85 m c)
  · rw [if_neg (fun e => Bool.false_ne_true (((decide_eq_false h).symm.trans (fetch_2 t).symm).trans e)), if_neg h]
    exact if_neg (fun e => Bool.false_ne_true ((flush_2 _).symm.trans e))
/-- and in the result's: nothing named. -/
theorem before_3 (c : Dev nD) (t : Fin cfg0.N) (d) : (dats m 0 c).before (3 : Fin 4) t d = d := by
  unfold Dat.before
  rw [if_neg (fun e => Bool.false_ne_true ((fetch_3 t).symm.trans e))]
  by_cases h : t.val = 0
  · rw [if_pos h]
  · rw [if_neg h]; exact if_pos (flush_3 _)

/-- The body, at every grid point. -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  have hmade := made_filled t d0 d1 (types m c) (atoms m c) (columns85 m c)
  rw [fetched_2] at hmade
  iapply (sound_body (F := Ideal) c Set.univ (grid0.coords t) (stage0_0 (cfg0.slots t 0)) (hstage0_0 _) (stage0_1 (cfg0.slots t 1)) (hstage0_1 _)
    (stage0_2 (cfg0.slots t 2)) (hstage0_2 _) (stage0_3 (cfg0.slots t 3)) (hstage0_3 _)
    (win0_0.fill (grid0.coords t) d0 (typesBlk m c t)) (win0_1.fill (grid0.coords t) d1 (atomsBlk m c t)) (columns85 m c) d3 _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0
      (win0_0.cut (grid0.coords t) (win0_0.fill (grid0.coords t) (fun _ => (0 : EReal)) (typesBlk m c t))))
    rw [win0_0.cut_fill]
  isplitl [H1]
  · iexists d1
    change _ ⊢ owns (c : Thread nD τ) (stage0_1 (cfg0.slots t 1)) fullShare (win0_1.fill (grid0.coords t) d1
      (win0_1.cut (grid0.coords t) (win0_1.fill (grid0.coords t) (fun _ => (0 : EReal)) (atomsBlk m c t))))
    rw [win0_1.cut_fill]
  isplitl [H2]; · iexact H2
  iexists (made (F := Ideal) (win0_0.fill (grid0.coords t) d0 (typesBlk m c t)) (win0_1.fill (grid0.coords t) d1 (atomsBlk m c t)) (columns85 m c))
  change _ ⊢ owns (c : Thread nD τ) (stage0_3 (cfg0.slots t 3)) fullShare (win0_3.fill (grid0.coords t)
    (made (F := Ideal) (win0_0.fill (grid0.coords t) d0 (typesBlk m c t)) (win0_1.fill (grid0.coords t) d1 (atomsBlk m c t)) (columns85 m c))
    (win0_3.cut (grid0.coords t) (win0_3.fill (grid0.coords t) (fun _ => (0 : EReal)) (outBlk m c t))))
  rw [win0_3.cut_fill, ← hmade]

/-- A place of the result array is in the block of its column's grid point. -/
theorem covered (i : S17x500000.Idx) : ∃ t : Fin cfg0.N, (cfg0.win 3).flush t = true ∧ i ∈ ((cfg0.win 3).blk t).view.set := by
  have h0 : (i (0 : Fin 2)).val < 17 := (i (0 : Fin 2)).isLt
  have h1 : (i (1 : Fin 2)).val < 500000 := (i (1 : Fin 2)).isLt
  have ht : (i (1 : Fin 2)).val / 20480 < grid0.N := by rw [N_0]; omega
  refine ⟨⟨(i (1 : Fin 2)).val / 20480, ht⟩, flush_3 _, ?_⟩
  obtain ⟨i0, i1⟩ := index_3 ⟨(i (1 : Fin 2)).val / 20480, ht⟩
  obtain ⟨m0, m1⟩ := moved_3 ⟨(i (1 : Fin 2)).val / 20480, ht⟩
  show i ∈ ((View.whole main_call0_v19).slice (win0_3.rect ⟨(i (1 : Fin 2)).val / 20480, ht⟩)).set
  rw [View.set_slice_whole, Rect.mem_set_unit]
  intro a
  match a with
  | ⟨0, _⟩ =>
    show win0_3.index ⟨(i (1 : Fin 2)).val / 20480, ht⟩ (0 : Fin 2) * 17 ≤ (i (0 : Fin 2)).val
      ∧ (i (0 : Fin 2)).val < win0_3.index ⟨(i (1 : Fin 2)).val / 20480, ht⟩ (0 : Fin 2) * 17 + win0_3.xsize (grid0.coords ⟨(i (1 : Fin 2)).val / 20480, ht⟩) (0 : Fin 2)
    rw [i0, m0]; omega
  | ⟨1, _⟩ =>
    show win0_3.index ⟨(i (1 : Fin 2)).val / 20480, ht⟩ (1 : Fin 2) * 20480 ≤ (i (1 : Fin 2)).val
      ∧ (i (1 : Fin 2)).val < win0_3.index ⟨(i (1 : Fin 2)).val / 20480, ht⟩ (1 : Fin 2) * 20480 + win0_3.xsize (grid0.coords ⟨(i (1 : Fin 2)).val / 20480, ht⟩) (1 : Fin 2)
    rw [i1, m1]; dsimp only; omega

/-- The result array after the last write-back. -/
theorem final_3 (c : Dev nD) : (dats m 0 c).arrAt 3 cfg0.N = outcome m c :=
  (dats m 0 c).arrAt_eq_of_cover 3 (outcome m c) (fun t _ => win0_3.cut_fill (grid0.coords t) (fun _ => (0 : EReal)) (outBlk m c t)) covered

/-- The last line of the program, read at an index. -/
theorem transposed (V : Valuation τ sig (Elt Ideal)) (i : Fin 500000) (q : Fin 17) :
    (StableHlo.after hostOps1 V (Proc.devRef .tc main_v0) : S500000x17.Idx → EReal) (ix2 i q)
      = (V (Proc.devRef .tc main_call0_v19) : S17x500000.Idx → EReal) (ix2 q i) := by
  after_reads_at

/-- The buffers after the last line of the program: its result is the region's, transposed, -/
theorem result_after (c : Dev nD) (i : Fin 500000) (q : Fin 17) :
    (Pipeline.afterTail₀ cfgs (dats m) 0 (entry m) [hostOps1] c main_v0 : S500000x17.Idx → EReal) (ix2 i q)
      = whole (types m c) (atoms m c) (columns85 m c) q i := by
  unfold Pipeline.afterTail₀
  rw [List.flatten_cons, List.flatten_nil, List.append_nil, transposed]
  exact congrFun ((Pipeline.withArrays_arr (cfgs 0).spec launch0.win.arr_inj c (entry m c) (fun w => (dats m 0 c).arrAt w (cfgs 0).N) 3).trans
    (final_3 m c)) (ix2 q i)

/-- and the arguments are as they were. -/
theorem argument_after (c : Dev nD) (b : Ref sig .tc) (hb : b ∈ arguments) :
    Pipeline.afterTail₀ cfgs (dats m) 0 (entry m) [hostOps1] c b = m ((c.tc : Thread nD τ).loc b) := by
  have hne : b ∉ [main_v0] ∧ ∀ w, Pipeline.arrRef spec0 w ≠ b :=
    (by decide : ∀ b ∈ arguments, b ∉ [main_v0] ∧ ∀ w, Pipeline.arrRef spec0 w ≠ b) b hb
  unfold Pipeline.afterTail₀
  rw [StableHlo.after_of_writes_sub (W := [main_v0]) _ _ (StableHlo.forall_writes_sub_of_map rfl) hne.1,
    Pipeline.withArrays_of_ne _ _ _ _ _ hne.2]
  exact entry_kept m c b (arguments_apart b hb).2

/-- What the launch says: the result at every index, the arguments, the counters. -/
def Named : PUnit × MemSt nD τ sig (Elt Ideal) → Prop := fun r =>
  (∀ c : Dev nD, (∀ (i : Fin 500000) (q : Fin 17),
      (r.2.mem ((c.tc : Thread nD τ).loc main_v0) : S500000x17.Idx → EReal) (ix2 i q) = whole (types m c) (atoms m c) (columns85 m c) q i)
    ∧ ∀ b ∈ arguments, r.2.mem ((c.tc : Thread nD τ).loc b) = m ((c.tc : Thread nD τ).loc b))
  ∧ r.2.sem = fun _ => 0

/-- The program's result is a buffer the region does not touch. -/
theorem result_apart : main_v0 ∈ Pipeline.restRefs sig spec0 := by decide +kernel

set_option backward.isDefEq.respectTransparency.types false in
/-- The launch. -/
theorem run_named : θ_run defs (onTc (τ := τ) (main (F := Ideal))) (s₀ m ρ) (Named m) :=
  Pipeline.θ_run_frame_around cfgs (dats m) (0 : Fin 1) launch0 defs₀ 𝒱₀ m ρ main
    (hbody := body_obligation m) (hshare := fun c => (dats m 0 c).share_full fun _ => rfl) (howed := fun _ _ => rfl)
    (V₀ := entry m) (opss := [hostOps1]) (hsub := last_sub) (hfresh := last_fresh) (hkeep := last_keeps)
    (hmain := main_around m) (hA := fun _ _ => rfl) (hΦ := fun _ _ => rfl)
    (Q' := Named m) (hQ' := fun r h => ⟨fun c =>
      ⟨fun i q => (congrFun ((h.1 c).2 main_v0 result_apart) (ix2 i q)).trans (result_after m c i q),
       fun b hb => ((h.1 c).2 b (Finset.mem_sdiff.mp (arguments_apart b hb).1).1).trans (argument_after m c b hb)⟩, h.2⟩)

end Cert.KernelIdeal.Placement

end
-- ==== Proof.EntryAt.lean ====
/-
  The region's three input arrays at an index, in terms of the arguments.
-/
module

public import proofs.«01_k».proof.Proof.FrameIdeal
public import proofs.«01_k».proof.Proof.BlockAt
public import Idealize.ShloMosaic.Lib.StableHlo.ReadAt

@[expose] public section

noncomputable section

namespace Cert.KernelIdeal.Placement

open Cert.KernelIdeal Cert.KernelIdeal.Gen
open Idealize.ShloMosaic Idealize.ShloMosaic.TcCoe

variable (m : (ℓ : Loc nD τ sig) → Buf (Elt Ideal) ℓ) (c : Dev nD)

/-- The residue types, transposed, the second chain after the first. -/
theorem types_at (k : Fin 20) (l : Fin 100000) :
    (entry m c (Proc.devRef .tc main_call0_v15) : S20x100000.Idx → EReal) (ix2 k l)
      = if h : l.val < 50000 then (m ((c : Thread nD τ).loc main_arg0) : S50000x20.Idx → EReal) (ix2 ⟨l.val, h⟩ k)
        else (m ((c : Thread nD τ).loc main_arg2) : S50000x20.Idx → EReal) (ix2 ⟨l.val - 50000, by omega⟩ k) := by
  unfold entry
  simp only [List.flatten_cons, List.flatten_nil, List.append_nil]
  after_reads_at
  by_cases h : l.val < 50000
  · rw [dif_pos h, dif_pos h]; after_reads_at
  · rw [dif_neg h, dif_neg h]; after_reads_at

/-- The atoms, transposed, the second chain after the first. -/
theorem atoms_at (a d : Fin 3) (l : Fin 100000) :
    (entry m c (Proc.devRef .tc main_call0_v18) : S3x3x100000.Idx → EReal) (ix3 a d l)
      = if h : l.val < 50000 then (m ((c : Thread nD τ).loc main_arg1) : S50000x3x3.Idx → EReal) (ix3 ⟨l.val, h⟩ a d)
        else (m ((c : Thread nD τ).loc main_arg3) : S50000x3x3.Idx → EReal) (ix3 ⟨l.val - 50000, by omega⟩ a d) := by
  unfold entry
  simp only [List.flatten_cons, List.flatten_nil, List.append_nil]
  after_reads_at
  by_cases h : l.val < 50000
  · rw [dif_pos h, dif_pos h]; after_reads_at
  · rw [dif_neg h, dif_neg h]; after_reads_at

/-- The table of coordinates at an index. -/
abbrev coords (k : Fin 20) (p : Fin 5) (a : Fin 3) : EReal := (m ((c : Thread nD τ).loc main_arg4) : S1x20x5x3.Idx → EReal) (ix4 0 k p a)
/-- The table of type shares at an index. -/
abbrev shares (k : Fin 20) (p : Fin 5) (a : Fin 12) : EReal := (m ((c : Thread nD τ).loc main_arg5) : S1x20x5x12.Idx → EReal) (ix4 0 k p a)
/-- The table of weights at an index. -/
abbrev weight (k : Fin 20) (p : Fin 5) : EReal := (m ((c : Thread nD τ).loc main_arg6) : S1x20x5x1.Idx → EReal) (ix4 0 k p 0)
/-- The table of radii at an index. -/
abbrev radius (k : Fin 20) (p : Fin 5) : EReal := (m ((c : Thread nD τ).loc main_arg7) : S1x20x5x1.Idx → EReal) (ix4 0 k p 0)

/-- The weighted coordinates, before the columns are put together, -/
theorem coords_at (k : Fin 20) (p : Fin 5) (a : Fin 3) :
    (StableHlo.upto hostOps0 (fun b => m (c, b)) 10 (Proc.devRef .tc main_call0_v2) : S20x5x3.Idx → EReal) (ix3 k p a)
      = coords m c k p a * weight m c k p := by
  after_reads_at

/-- the weighted types, -/
theorem shares_at (k : Fin 20) (p : Fin 5) (a : Fin 12) :
    (StableHlo.upto hostOps0 (fun b => m (c, b)) 10 (Proc.devRef .tc main_call0_v5) : S20x5x12.Idx → EReal) (ix3 k p a)
      = shares m c k p a * weight m c k p := by
  after_reads_at

/-- the weighted radii, -/
theorem radius_at (k : Fin 20) (p : Fin 5) :
    (StableHlo.upto hostOps0 (fun b => m (c, b)) 10 (Proc.devRef .tc main_call0_v8) : S20x5x1.Idx → EReal) (ix3 k p 0)
      = radius m c k p * weight m c k p := by
  after_reads_at

/-- the weights. -/
theorem weight_at (k : Fin 20) (p : Fin 5) :
    (StableHlo.upto hostOps0 (fun b => m (c, b)) 10 (Proc.devRef .tc main_call0_v9) : S20x5x1.Idx → EReal) (ix3 k p 0)
      = weight m c k p := by
  after_reads_at

/-- Channel `j` of the columns of group `p`. -/
def column (p : Fin 5) (j : Fin 17) (k : Fin 20) : EReal :=
  if h : j.val < 3 then coords m c k p ⟨j.val, h⟩ * weight m c k p
  else if h' : j.val - 3 < 12 then shares m c k p ⟨j.val - 3, h'⟩ * weight m c k p
  else if j.val - 3 - 12 < 1 then radius m c k p * weight m c k p
  else weight m c k p

set_option maxHeartbeats 4000000 in
/-- The weight columns: row `17 p + j` is channel `j` of group `p`. -/
theorem weights_at (n : Fin 85) (k : Fin 20) (p : Fin 5) (j : Fin 17) (hp : n.val / 17 = p.val) (hj : n.val % 17 = j.val) :
    (entry m c (Proc.devRef .tc main_call0_v12) : S85x20.Idx → EReal) (ix2 n k) = column m c p j k := by
  unfold entry
  simp only [List.flatten_cons, List.flatten_nil, List.append_nil]
  after_reads_at
  have ep : ∀ h, (⟨n.val / 17, h⟩ : Fin 5) = p := fun h => Fin.ext hp
  simp only [hj, ep]
  unfold column
  by_cases h : j.val < 3
  · rw [dif_pos h, dif_pos h]; exact coords_at m c k p ⟨j.val, h⟩
  rw [dif_neg h, dif_neg h]
  by_cases h' : j.val - 3 < 12
  · rw [dif_pos h', dif_pos h']; exact shares_at m c k p ⟨j.val - 3, h'⟩
  rw [dif_neg h', dif_neg h']
  by_cases h'' : j.val - 3 - 12 < 1
  · rw [dif_pos h'', if_pos h'']
    have e : (⟨j.val - 3 - 12, h''⟩ : Fin 1) = 0 := Subsingleton.elim _ _
    rw [← radius_at m c k p, ← e]; rfl
  rw [dif_neg h'', if_neg h'']
  have e : (⟨j.val - 3 - 12 - 1, by omega⟩ : Fin 1) = 0 := Subsingleton.elim _ _
  rw [← weight_at m c k p, ← e]; rfl

end Cert.KernelIdeal.Placement

end
-- ==== Proof.Agree.lean ====
/-
  The kernel's result and the reference's are equal where no total weight is zero: at every row and channel both are
  the stated channel of the row's pseudo-atom.
-/
module

public import proofs.«01_k».proof.Proof.ValueIdeal
public import proofs.«01_k».proof.Proof.EntryAt
public import proofs.«01_k».proof.Proof.RefAt

@[expose] public section

noncomputable section

namespace Cert.KernelIdeal.Placement

open Cert.KernelIdeal Cert.KernelIdeal.Gen Cert.Placement
open Idealize.ShloMosaic Idealize.ShloMosaic.TcCoe

variable (m : (ℓ : Loc nD τ sig) → Buf (Elt Ideal) ℓ) (c : Dev nD)

/-- The first chain's residue types, on device `c`. -/
abbrev seq1 : S50000x20.Idx → EReal := m ((c : Thread nD τ).loc main_arg0)
/-- The first chain's atoms. -/
abbrev atoms1 : S50000x3x3.Idx → EReal := m ((c : Thread nD τ).loc main_arg1)
/-- The second chain's residue types. -/
abbrev seq2 : S50000x20.Idx → EReal := m ((c : Thread nD τ).loc main_arg2)
/-- The second chain's atoms. -/
abbrev atoms2 : S50000x3x3.Idx → EReal := m ((c : Thread nD τ).loc main_arg3)
/-- The table of coordinates. -/
abbrev table3 : S1x20x5x3.Idx → EReal := m ((c : Thread nD τ).loc main_arg4)
/-- The table of type shares. -/
abbrev table12 : S1x20x5x12.Idx → EReal := m ((c : Thread nD τ).loc main_arg5)
/-- The table of weights. -/
abbrev tableW : S1x20x5x1.Idx → EReal := m ((c : Thread nD τ).loc main_arg6)
/-- The table of radii. -/
abbrev tableR : S1x20x5x1.Idx → EReal := m ((c : Thread nD τ).loc main_arg7)

/-- The kernel's channel `q` of pseudo-atom `p` of a residue whose types are `s` and atoms `x`. -/
theorem whole_channel (q : Fin 17) (n : Fin 500000) (p : Fin 5) (hp : n.val % 5 = p.val) (s : Fin 20 → EReal) (x : Fin 3 → Fin 3 → EReal)
    (hs : ∀ k, types m c (ix2 k ⟨n.val / 5, by omega⟩) = s k) (hx : ∀ a d, atoms m c (ix3 a d ⟨n.val / 5, by omega⟩) = x a d)
    (hd : Spec.total s (fun k => tableW m c (ix4 0 k p 0)) ≠ 0) :
    whole (types m c) (atoms m c) (columns85 m c) q n
      = Spec.channel s x (fun k a => table3 m c (ix4 0 k p a)) (fun k a => table12 m c (ix4 0 k p a))
          (fun k => tableW m c (ix4 0 k p 0)) (fun k => tableR m c (ix4 0 k p 0)) q := by
  unfold whole
  simp only [hx]
  refine channels_eq _ s x _ _ _ _ (column m c p) (fun j => Finset.sum_congr rfl fun k _ => ?_) (fun j k => ?_) (fun j k => ?_) (fun k => ?_)
    (fun k => ?_) hd q
  · rw [hs]
    exact congrArg (· * s k) (weights_at m c ⟨n.val % 5 * 17 + j.val, by omega⟩ k p j
      (by show (n.val % 5 * 17 + j.val) / 17 = p.val; omega) (by show (n.val % 5 * 17 + j.val) % 17 = j.val; omega))
  · unfold column; rw [dif_pos (show j.val < 3 from j.isLt)]
  · unfold column
    rw [dif_neg (show ¬ j.val + 3 < 3 by omega), dif_pos (show j.val + 3 - 3 < 12 by omega)]
    have e : (⟨j.val + 3 - 3, by omega⟩ : Fin 12) = j := Fin.ext (by show j.val + 3 - 3 = j.val; omega)
    simp only [e]
  · rfl
  · rfl

/-- The kernel's result at an index is the reference's. -/
theorem agree (h1 : ∀ (l : Fin 50000) (p : Fin 5), Spec.total (fun k => seq1 m c (ix2 l k)) (fun k => tableW m c (ix4 0 k p 0)) ≠ 0)
    (h2 : ∀ (l : Fin 50000) (p : Fin 5), Spec.total (fun k => seq2 m c (ix2 l k)) (fun k => tableW m c (ix4 0 k p 0)) ≠ 0)
    (i : Fin 500000) (q : Fin 17) :
    whole (types m c) (atoms m c) (columns85 m c) q i
      = ReferenceIdeal.Line.joined (F := Ideal) (seq1 m c) (atoms1 m c) (seq2 m c) (atoms2 m c) (table3 m c) (table12 m c) (tableW m c) (tableR m c) (ix2 i q) := by
  rw [ReferenceIdeal.Line.joined_at]
  by_cases h : i.val < 250000
  · have hl : i.val / 5 < 50000 := by omega
    rw [dif_pos h, ReferenceIdeal.Line.chain_at _ _ _ _ _ _ ⟨i.val / 5, hl⟩ ⟨i.val % 5, by omega⟩ ⟨i.val, h⟩ rfl rfl]
    exact whole_channel m c q i ⟨i.val % 5, by omega⟩ rfl _ _ (fun k => (types_at m c k _).trans (dif_pos hl))
      (fun a d => (atoms_at m c a d _).trans (dif_pos hl)) (h1 _ _)
  · have hl : ¬ i.val / 5 < 50000 := by omega
    rw [dif_neg h, ReferenceIdeal.Line.chain_at _ _ _ _ _ _ ⟨i.val / 5 - 50000, by omega⟩ ⟨i.val % 5, by omega⟩ ⟨i.val - 250000, by omega⟩
      (by show (i.val - 250000) / 5 = i.val / 5 - 50000; omega) (by show (i.val - 250000) % 5 = i.val % 5; omega)]
    exact whole_channel m c q i ⟨i.val % 5, by omega⟩ rfl _ _ (fun k => (types_at m c k _).trans (dif_neg hl))
      (fun a d => (atoms_at m c a d _).trans (dif_neg hl)) (h2 _ _)

end Cert.KernelIdeal.Placement

end
-- ==== Proof.lean ====
/-
  The certificate: the frames of the three programs, the idealization's keeping of the kernel, and the equality of the
  kernel's and the reference's results on the extended reals where no total weight is zero.
-/
module

public import proofs.«01_k».proof.Defs
public import proofs.«01_k».proof.Proof.FrameBits
public import proofs.«01_k».proof.Proof.FrameIdeal
public import proofs.«01_k».proof.Proof.RefRun
public import proofs.«01_k».proof.Proof.Nonzero
public import proofs.«01_k».proof.Proof.Agree

@[expose] public section

noncomputable section

namespace Cert.Proof

open Idealize.ShloMosaic Idealize.SL.Sem

/-- The reference's frame. -/
theorem reference_frame : Cert.quiescent_ReferenceIdeal (hReferenceIdeal := Cert.ReferenceIdeal.Gen.facts) := fun m g _ =>
  (θ_run _ _ _).2 (fun _ h => ⟨fun c => (h.1 c).2, h.2⟩) (Cert.ReferenceIdeal.Line.run (F := Ideal) m g)

/-- The reference's frame where no total weight is zero. -/
theorem reference_frame_pre : Cert.quiescent_ReferenceIdeal_pre_weights_nonzero (hReferenceIdeal := Cert.ReferenceIdeal.Gen.facts)
    (hPre_weights_nonzero := Cert.Nonzero.facts) := fun m g _ => reference_frame m g trivial

/-- The kernel and the reference end with equal results. -/
theorem equal_results : Cert.algebraic_KernelIdeal_ReferenceIdeal_pre_weights_nonzero (hKernelIdeal := Cert.KernelIdeal.Gen.facts)
    (hReferenceIdeal := Cert.ReferenceIdeal.Gen.facts) (hPre_weights_nonzero := Cert.Nonzero.facts) := by
  intro m g m' g' hpre hagree
  have htot := fun c => Cert.Nonzero.totals _ _ _ _ _ _ _ _ (hpre c)
  refine ⟨fun c => Cert.ReferenceIdeal.Line.joined (F := Ideal) (Cert.KernelIdeal.Placement.seq1 m c) (Cert.KernelIdeal.Placement.atoms1 m c)
    (Cert.KernelIdeal.Placement.seq2 m c) (Cert.KernelIdeal.Placement.atoms2 m c) (Cert.KernelIdeal.Placement.table3 m c)
    (Cert.KernelIdeal.Placement.table12 m c) (Cert.KernelIdeal.Placement.tableW m c) (Cert.KernelIdeal.Placement.tableR m c), ?_, ?_⟩
  · refine (θ_run _ _ _).2 (fun r h c => ?_) (Cert.KernelIdeal.Placement.run_named m g)
    have hk := (h.1 c).2
    refine ⟨funext fun j => ?_, hk _ (by simp [Cert.KernelIdeal.Placement.arguments]), hk _ (by simp [Cert.KernelIdeal.Placement.arguments]),
      hk _ (by simp [Cert.KernelIdeal.Placement.arguments]), hk _ (by simp [Cert.KernelIdeal.Placement.arguments]),
      hk _ (by simp [Cert.KernelIdeal.Placement.arguments]), hk _ (by simp [Cert.KernelIdeal.Placement.arguments]),
      hk _ (by simp [Cert.KernelIdeal.Placement.arguments]), hk _ (by simp [Cert.KernelIdeal.Placement.arguments])⟩
    have ej : j = ix2 (⟨(j (0 : Fin 2)).val, (j (0 : Fin 2)).isLt⟩ : Fin 500000) (⟨(j (1 : Fin 2)).val, (j (1 : Fin 2)).isLt⟩ : Fin 17) :=
      funext fun a => by
        match a with
        | ⟨0, _⟩ => rfl
        | ⟨1, _⟩ => rfl
    rw [ej]
    exact ((h.1 c).1 _ _).trans (Cert.KernelIdeal.Placement.agree m c (fun l p => (htot c l p).1) (fun l p => (htot c l p).2) _ _)
  · refine (θ_run _ _ _).2 (fun r h c => ⟨?_, (h.1 c).2⟩) (Cert.ReferenceIdeal.Line.run (F := Ideal) m' g')
    obtain ⟨e0, e1, e2, e3, e4, e5, e6, e7⟩ := hagree c
    rw [(h.1 c).1, e0, e1, e2, e3, e4, e5, e6, e7]

/-- Everything the certificate claims. -/
theorem claim : Cert.Claim := ⟨Cert.Kernel.Gen.facts, Cert.KernelIdeal.Gen.facts, Cert.ReferenceIdeal.Gen.facts, Cert.Nonzero.facts,
  fun m g _ => Cert.Kernel.Placement.frame_run m g, fun m g _ => Cert.KernelIdeal.Placement.frame_run m g,
  fun m g _ => Cert.KernelIdeal.Placement.frame_run m g,
  reference_frame, reference_frame_pre, trivial, equal_results⟩

end Cert.Proof

end
